-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S256x1 : Shape := ⟨2, ![256, 1]⟩
abbrev S256 : Shape := ⟨1, ![256]⟩
abbrev S_ : Shape := ⟨0, ![]⟩

class Facts : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256x2 : S_.BroadcastsInDim S256x2 (![] : Fin 0 → Fin S256x2.rank)
  reducesTo_S256x2_S_d0_1 : S256x2.ReducesTo [0, 1] S_
  h_S_ : 0 < S_.numel
  reducesTo_S256_S_d0 : S256.ReducesTo [0] S_

variable [Facts]

def fn {F : FTy → Type} [FloatOps F] (main_arg0 : FVec F S256x128 .f32) (main_arg1 : FVec F S128x8 .f32) (main_arg2 : IVec S256x2 32) (main_arg3 : FVec F S2x128x256 .f32) : IVec S_ 1 :=
  let main_v0 : IVec S256x1 32 := (extractStridedSlice S256x1 ![0, 0] · slices_S256x2_S256x1_0_0) main_arg2
  let main_v1 : IVec S256 32 := shapeCast S256 main_v0 shapeCasts_S256x1_S256
  let main_v2 : IVec S256x1 32 := (extractStridedSlice S256x1 ![0, 1] · slices_S256x2_S256x1_0_1) main_arg2
  let main_v3 : IVec S256 32 := shapeCast S256 main_v2 shapeCasts_S256x1_S256
  let main_c : IVec S_ 32 := constantI S_ 32 0#32
  let main_v4 : IVec S256x2 32 := broadcastInDim S256x2 ![] bcast_S_S256x2 main_c
  let main_v5 : IVec S256x2 1 := cmpi .sge main_arg2 main_v4
  let main_c_0 : IVec S_ 32 := constantI S_ 32 8#32
  let main_v6 : IVec S256x2 32 := broadcastInDim S256x2 ![] bcast_S_S256x2 main_c_0
  let main_v7 : IVec S256x2 1 := cmpi .slt main_arg2 main_v6
  let main_v8 : IVec S256x2 1 := andi main_v5 main_v7
  let main_c_1 : IVec S_ 1 := constantI S_ 1 1#1
  let main_v9 : IVec S_ 1 := (fun x v => Host.reduce IntOp.andi x v reducesTo_S256x2_S_d0_1 h_S_) main_v8 main_c_1
  let main_v10 : IVec S256 1 := cmpi .ne main_v1 main_v3
  let main_c_2 : IVec S_ 1 := constantI S_ 1 1#1
  let main_v11 : IVec S_ 1 := (fun x v => Host.reduce IntOp.andi x v reducesTo_S256_S_d0 h_S_) main_v10 main_c_2
  let main_v12 : IVec S_ 1 := andi main_v9 main_v11
  main_v12
-- ==== Pre_routed_ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S256x1 : Shape := ⟨2, ![256, 1]⟩
abbrev S256 : Shape := ⟨1, ![256]⟩
abbrev S_ : Shape := ⟨0, ![]⟩

class Facts : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256x2 : S_.BroadcastsInDim S256x2 (![] : Fin 0 → Fin S256x2.rank)
  reducesTo_S256x2_S_d0_1 : S256x2.ReducesTo [0, 1] S_
  h_S_ : 0 < S_.numel
  reducesTo_S256_S_d0 : S256.ReducesTo [0] S_

variable [Facts]

def fn {F : FTy → Type} [FloatOps F] (main_arg0 : FVec F S256x128 .f32) (main_arg1 : FVec F S128x8 .f32) (main_arg2 : IVec S256x2 32) (main_arg3 : FVec F S8x128x256 .f32) : IVec S_ 1 :=
  let main_v0 : IVec S256x1 32 := (extractStridedSlice S256x1 ![0, 0] · slices_S256x2_S256x1_0_0) main_arg2
  let main_v1 : IVec S256 32 := shapeCast S256 main_v0 shapeCasts_S256x1_S256
  let main_v2 : IVec S256x1 32 := (extractStridedSlice S256x1 ![0, 1] · slices_S256x2_S256x1_0_1) main_arg2
  let main_v3 : IVec S256 32 := shapeCast S256 main_v2 shapeCasts_S256x1_S256
  let main_c : IVec S_ 32 := constantI S_ 32 0#32
  let main_v4 : IVec S256x2 32 := broadcastInDim S256x2 ![] bcast_S_S256x2 main_c
  let main_v5 : IVec S256x2 1 := cmpi .sge main_arg2 main_v4
  let main_c_0 : IVec S_ 32 := constantI S_ 32 8#32
  let main_v6 : IVec S256x2 32 := broadcastInDim S256x2 ![] bcast_S_S256x2 main_c_0
  let main_v7 : IVec S256x2 1 := cmpi .slt main_arg2 main_v6
  let main_v8 : IVec S256x2 1 := andi main_v5 main_v7
  let main_c_1 : IVec S_ 1 := constantI S_ 1 1#1
  let main_v9 : IVec S_ 1 := (fun x v => Host.reduce IntOp.andi x v reducesTo_S256x2_S_d0_1 h_S_) main_v8 main_c_1
  let main_v10 : IVec S256 1 := cmpi .ne main_v1 main_v3
  let main_c_2 : IVec S_ 1 := constantI S_ 1 1#1
  let main_v11 : IVec S_ 1 := (fun x v => Host.reduce IntOp.andi x v reducesTo_S256_S_d0 h_S_) main_v10 main_c_2
  let main_v12 : IVec S_ 1 := andi main_v9 main_v11
  main_v12
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S256x256 : Shape := ⟨2, ![256, 256]⟩
abbrev S2x8x32x256 : Shape := ⟨4, ![2, 8, 32, 256]⟩
abbrev S2x8 : Shape := ⟨2, ![2, 8]⟩
abbrev S_ : Shape := ⟨0, ![]⟩
abbrev S256x8 : Shape := ⟨2, ![256, 8]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S32x128 : Shape := ⟨2, ![32, 128]⟩
abbrev S32x1 : Shape := ⟨2, ![32, 1]⟩
abbrev S32x256 : Shape := ⟨2, ![32, 256]⟩
abbrev S1x1x32x256 : Shape := ⟨4, ![1, 1, 32, 256]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x8, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S2x8x32x256, .bf16⟩
  | .local _ .vmem, ⟨6, _⟩ => ⟨S2x8x32x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_50 : BitVec 32 := 1#32
  let v96 : BitVec 32 := Scalar.muli v3 c1_i32_50
  let v97 : BitVec 32 := Scalar.addi c0_i32_51 v96
  v97.toNat
def k0_dev4 (d0 : Dev nD) : Nat :=
  let c0_i32_72 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_71 : BitVec 32 := 1#32
  let v121 : BitVec 32 := Scalar.muli v4 c1_i32_71
  let v122 : BitVec 32 := Scalar.addi c0_i32_72 v121
  v122.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_91 : BitVec 32 := 1#32
  let v146 : BitVec 32 := Scalar.muli v3 c1_i32_91
  let v147 : BitVec 32 := Scalar.addi c0_i32_92 v146
  v147.toNat
def k0_dev6 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_111 : BitVec 32 := 1#32
  let v171 : BitVec 32 := Scalar.muli v4 c1_i32_111
  let v172 : BitVec 32 := Scalar.addi c0_i32_112 v171
  v172.toNat
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_131 : BitVec 32 := 1#32
  let v196 : BitVec 32 := Scalar.muli v3 c1_i32_131
  let v197 : BitVec 32 := Scalar.addi c0_i32_132 v196
  v197.toNat
def k0_dev8 (d0 : Dev nD) : Nat :=
  let c0_i32_151 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_150 : BitVec 32 := 1#32
  let v221 : BitVec 32 := Scalar.muli v4 c1_i32_150
  let v222 : BitVec 32 := Scalar.addi c0_i32_151 v221
  v222.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_169 : BitVec 32 := 1#32
  let v246 : BitVec 32 := Scalar.muli v3 c1_i32_169
  let v247 : BitVec 32 := Scalar.addi c0_i32_170 v246
  v247.toNat
def k0_dev10 (d0 : Dev nD) : Nat :=
  let c0_i32_189 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_188 : BitVec 32 := 1#32
  let v271 : BitVec 32 := Scalar.muli v4 c1_i32_188
  let v272 : BitVec 32 := Scalar.addi c0_i32_189 v271
  v272.toNat
def k0_dev11 (d0 : Dev nD) : Nat :=
  let c0_i32_242 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_241 : BitVec 32 := 1#32
  let v306 : BitVec 32 := Scalar.muli v4 c1_i32_241
  let v307 : BitVec 32 := Scalar.addi c0_i32_242 v306
  v307.toNat
def k0_dev12 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_294 : BitVec 32 := 1#32
  let v341 : BitVec 32 := Scalar.muli v3 c1_i32_294
  let v342 : BitVec 32 := Scalar.addi c0_i32_295 v341
  v342.toNat
def k0_dev13 (d0 : Dev nD) : Nat :=
  let c0_i32_348 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_347 : BitVec 32 := 1#32
  let v376 : BitVec 32 := Scalar.muli v4 c1_i32_347
  let v377 : BitVec 32 := Scalar.addi c0_i32_348 v376
  v377.toNat
def k0_dev14 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_400 : BitVec 32 := 1#32
  let v411 : BitVec 32 := Scalar.muli v3 c1_i32_400
  let v412 : BitVec 32 := Scalar.addi c0_i32_401 v411
  v412.toNat
def k0_dev15 (d0 : Dev nD) : Nat :=
  let c0_i32_454 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_453 : BitVec 32 := 1#32
  let v446 : BitVec 32 := Scalar.muli v4 c1_i32_453
  let v447 : BitVec 32 := Scalar.addi c0_i32_454 v446
  v447.toNat
def k0_dev16 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_506 : BitVec 32 := 1#32
  let v481 : BitVec 32 := Scalar.muli v3 c1_i32_506
  let v482 : BitVec 32 := Scalar.addi c0_i32_507 v481
  v482.toNat
def k0_dev17 (d0 : Dev nD) : Nat :=
  let c0_i32_560 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_559 : BitVec 32 := 1#32
  let v516 : BitVec 32 := Scalar.muli v4 c1_i32_559
  let v517 : BitVec 32 := Scalar.addi c0_i32_560 v516
  v517.toNat
def k0_dev18 (d0 : Dev nD) : Nat :=
  let c0_i32_613 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_612 : BitVec 32 := 1#32
  let v551 : BitVec 32 := Scalar.muli v3 c1_i32_612
  let v552 : BitVec 32 := Scalar.addi c0_i32_613 v551
  v552.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S256x128x256 : Shape := ⟨3, ![256, 128, 256]⟩
abbrev S256x256 : Shape := ⟨2, ![256, 256]⟩

abbrev nBuf : Space → Nat
  | .hbm => 54
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x2, .i32⟩
  | .hbm, ⟨3, _⟩ => ⟨S8x128x256, .f32⟩
  | .hbm, ⟨4, _⟩ => ⟨S256x8, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x8, .f32⟩
  | .hbm, ⟨9, _⟩ => ⟨S256x8, .f32⟩
  | .hbm, ⟨10, _⟩ => ⟨S256x8, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x8, .f32⟩
  | .hbm, ⟨15, _⟩ => ⟨S256x8, .f32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256x1x1, .i32⟩
  | .hbm, ⟨26, _⟩ => ⟨S256x1, .f32⟩
  | .hbm, ⟨27, _⟩ => ⟨S_, .i32⟩
  | .hbm, ⟨28, _⟩ => ⟨S256x1, .i32⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S256x1x1, .i32⟩
  | .hbm, ⟨35, _⟩ => ⟨S256x1, .f32⟩
  | .hbm, ⟨36, _⟩ => ⟨S256x1, .f32⟩
  | .hbm, ⟨37, _⟩ => ⟨S256x1, .i32⟩
  | .hbm, ⟨38, _⟩ => ⟨S256, .i32⟩
  | .hbm, ⟨39, _⟩ => ⟨S256x1, .i32⟩
  | .hbm, ⟨40, _⟩ => ⟨S256x128x256, .f32⟩
  | .hbm, ⟨41, _⟩ => ⟨S256x1, .i32⟩
  | .hbm, ⟨42, _⟩ => ⟨S256, .i32⟩
  | .hbm, ⟨43, _⟩ => ⟨S256x1, .i32⟩
  | .hbm, ⟨44, _⟩ => ⟨S256x128x256, .f32⟩
  | .hbm, ⟨45, _⟩ => ⟨S256x256, .f32⟩
  | .hbm, ⟨46, _⟩ => ⟨S256x256, .f32⟩
  | .hbm, ⟨47, _⟩ => ⟨S256x1, .f32⟩
  | .hbm, ⟨48, _⟩ => ⟨S256x256, .f32⟩
  | .hbm, ⟨49, _⟩ => ⟨S256x256, .f32⟩
  | .hbm, ⟨50, _⟩ => ⟨S256x1, .f32⟩
  | .hbm, ⟨51, _⟩ => ⟨S256x256, .f32⟩
  | .hbm, ⟨52, _⟩ => ⟨S256x256, .f32⟩
  | .hbm, ⟨53, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.Slots.lean ====
/-
The two transfer buffers of the kernel and the rows of its result.

Each device holds two buffers of 2 × 8 slots of 32 × 256 numbers: `sbuf`, from which its transfers
read, and `comm`, into which its partners' transfers land. Slot `(s, j)` serves the transfer of
row chunk `j` in exchange `s`. This module names the slots, shows that they partition the buffer,
and says what a store, a load and a transfer do to contents given slot by slot (`glue4`); and the same for the eight
row chunks of the result (`glue2`).
-/
module

public import proofs.«01_k».proof.Proof.Gen.KernelIdeal
public import proofs.«01_k».proof.Proof.Gen.KernelIdeal.Skeleton
public import Idealize.ShloMosaic.Lib.Ring.FamCut
public import Idealize.ShloMosaic.Lib.ViewIndex
public import Idealize.ShloMosaic.Lib.Pipeline.Kit
public import Idealize.ShloMosaic.Lib.Tactic

@[expose] public section

noncomputable section

namespace Cert.MoE

open Cert.KernelIdeal Cert.KernelIdeal.Gen
open Idealize.ShloMosaic

variable {F : FTy → Type} [FloatOps F]

/-! ## Slots -/

/-- A slot: the exchange and the row chunk it serves. -/
abbrev Slot : Type := Fin 2 × Fin 8

/-- A slot's rectangle stays within the buffer. -/
theorem slot_inb (q : Slot) (a : Fin 4) :
    (![q.1.val, q.2.val, 0, 0] : Fin 4 → Nat) a + S1x1x32x256.size a ≤ S2x8x32x256.size a := by
  obtain ⟨s, j⟩ := q
  have := s.isLt; have := j.isLt
  fin_cases a <;> simp [S1x1x32x256, S2x8x32x256] <;> omega

/-- The rectangle of slot `q` in either buffer. -/
abbrev slotRect (q : Slot) : Rect S2x8x32x256 :=
  Rect.unit (s := S2x8x32x256) ![q.1.val, q.2.val, 0, 0] S1x1x32x256.size (slot_inb q)

/-- The buffer transfers land in, and the buffer they read. -/
abbrev commM : Memref sig .tc .vmem S2x8x32x256 .bf16 := Memref.whole cc0_scratch0
abbrev sbufM : Memref sig .tc .vmem S2x8x32x256 .bf16 := Memref.whole cc0_scratch1

/-- Slot `q` of each as a transfer names it: a 32 × 256 block. -/
abbrev commSlot (q : Slot) : Memref sig .tc .vmem S32x256 .bf16 :=
  (commM.slice (slotRect q) (fun _ => rfl)).squeeze S32x256 squeezes_S1x1x32x256_S32x256
abbrev sbufSlot (q : Slot) : Memref sig .tc .vmem S32x256 .bf16 :=
  (sbufM.slice (slotRect q) (fun _ => rfl)).squeeze S32x256 squeezes_S1x1x32x256_S32x256

/-- The slot an element of the buffer lies in. -/
def slotOf (i : S2x8x32x256.Idx) : Slot := (⟨(i 0).val, (i 0).isLt⟩, ⟨(i 1).val, (i 1).isLt⟩)

/-- The elements of slot `q`. -/
def slotSet (q : Slot) : Finset S2x8x32x256.Idx := (slotRect q).set

theorem mem_slotSet {q : Slot} {i : S2x8x32x256.Idx} : i ∈ slotSet q ↔ slotOf i = q := by
  unfold slotSet
  rw [Rect.mem_set_unit, Prod.ext_iff, Fin.ext_iff, Fin.ext_iff]
  have h2 := (i 2).isLt; have h3 := (i 3).isLt
  constructor
  · intro h
    have h0 := h 0; have h1 := h 1
    simp [S1x1x32x256] at h0 h1
    exact ⟨by show (i 0).val = _; omega, by show (i 1).val = _; omega⟩
  · rintro ⟨h0, h1⟩ a
    have h0' : (i 0).val = q.1.val := h0
    have h1' : (i 1).val = q.2.val := h1
    fin_cases a
    · simp [S1x1x32x256]; omega
    · simp [S1x1x32x256]; omega
    · simpa [S1x1x32x256] using h2
    · simpa [S1x1x32x256] using h3

theorem slotSet_disjoint (q q' : Slot) (h : q ≠ q') : Disjoint (slotSet q) (slotSet q') :=
  Finset.disjoint_left.mpr fun _ hi hi' => h ((mem_slotSet.mp hi).symm.trans (mem_slotSet.mp hi'))

theorem slotSet_cover : Finset.univ.biUnion slotSet = Finset.univ := by
  ext i
  simp only [Finset.mem_biUnion, Finset.mem_univ, true_and, iff_true]
  exact ⟨slotOf i, mem_slotSet.mpr rfl⟩

/-- Taking a rectangle of a whole buffer keeps its elements. -/
theorem map_whole_emb (b : Ref sig .tc) (A : Finset b.ty.shape.Idx) : A.map (View.whole b).emb = A := by
  ext i
  rw [Finset.mem_map]
  exact ⟨fun ⟨_, h, e⟩ => e ▸ h, fun h => ⟨i, h, rfl⟩⟩

/-- The access a load or store goes through holds the slot's elements. -/
theorem comm_access_set (q : Slot) : (commM.access (slotRect q)).set = slotSet q :=
  (View.set_slice _ _).trans (map_whole_emb cc0_scratch0 _)
theorem sbuf_access_set (q : Slot) : (sbufM.access (slotRect q)).set = slotSet q :=
  (View.set_slice _ _).trans (map_whole_emb cc0_scratch1 _)

/-- So does the memref a transfer names. -/
theorem commSlot_set (q : Slot) : (commSlot q).view.set = slotSet q :=
  (View.set_reshape _ _).trans (comm_access_set q)
theorem sbufSlot_set (q : Slot) : (sbufSlot q).view.set = slotSet q :=
  (View.set_reshape _ _).trans (sbuf_access_set q)

/-! ## Contents slot by slot -/

/-- An element's place inside its slot. -/
def inSlot (i : S2x8x32x256.Idx) : S1x1x32x256.Idx := fun a =>
  match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩

/-- The buffer whose slot `q` reads `v q`. -/
def glue4 (v : Slot → Vec F S1x1x32x256 .bf16) : S2x8x32x256.Idx → Elt F .bf16 :=
  fun i => v (slotOf i) (inSlot i)

theorem slotOf_emb (q : Slot) (x : S1x1x32x256.Idx) : slotOf ((slotRect q).emb x) = q := by
  have := mem_slotSet.mp (show (slotRect q).emb x ∈ slotSet q from (slotRect q).idx_mem x)
  exact this

theorem inSlot_emb (q : Slot) (x : S1x1x32x256.Idx) : inSlot ((slotRect q).emb x) = x := by
  have h0 : (x 0).val = 0 := by have : (x 0).val < 1 := (x 0).isLt; omega
  have h1 : (x 1).val = 0 := by have : (x 1).val < 1 := (x 1).isLt; omega
  funext a
  match a with
  | ⟨0, _⟩ => exact Fin.ext h0.symm
  | ⟨1, _⟩ => exact Fin.ext h1.symm
  | ⟨2, _⟩ => exact Fin.ext (show 0 + 1 * (x 2).val = (x 2).val by omega)
  | ⟨3, _⟩ => exact Fin.ext (show 0 + 1 * (x 3).val = (x 3).val by omega)

/-- Reading slot `q` of either buffer gives its part. -/
theorem read_comm_glue4 (v : Slot → Vec F S1x1x32x256 .bf16) (q : Slot) :
    (commM.access (slotRect q)).read (Elt F) (glue4 v) = v q := by
  funext x
  show glue4 v ((slotRect q).emb x) = v q x
  unfold glue4; rw [slotOf_emb, inSlot_emb]

/-- Storing `v q` to slot `q` leaves there what `glue4 v` holds. -/
theorem write_sbuf_glue4 (v : Slot → Vec F S1x1x32x256 .bf16) (q : Slot) (f : S2x8x32x256.Idx → Elt F .bf16)
    (i : S2x8x32x256.Idx) (hi : i ∈ slotSet q) :
    (sbufM.access (slotRect q)).write (Elt F) f (v q) Finset.univ i = glue4 v i := by
  obtain ⟨x, rfl⟩ := (slotRect q).exists_idx_of_mem hi
  have h := View.write_emb_of_mem (v := sbufM.access (slotRect q)) (Val := Elt F) f (v q) (Finset.mem_univ x)
  refine h.trans ?_
  show v q x = glue4 v ((slotRect q).emb x)
  unfold glue4; rw [slotOf_emb, inSlot_emb]

/-- A transfer from slot `q` to slot `q` leaves on it the source's elements. -/
theorem write_comm_read_sbuf (q : Slot) (fd fs : S2x8x32x256.Idx → Elt F .bf16) (i : S2x8x32x256.Idx) (hi : i ∈ slotSet q) :
    (commSlot q).view.write (Elt F) fd ((sbufSlot q).view.read (Elt F) fs) Finset.univ i = fs i := by
  have hi' : i ∈ (commSlot q).view.set := by rw [commSlot_set]; exact hi
  obtain ⟨x, -, rfl⟩ := Finset.mem_map.mp hi'
  exact (View.write_emb_of_mem (v := (commSlot q).view) (Val := Elt F) fd _ (Finset.mem_univ x))

/-! ## Row chunks of the result -/

theorem rows_inb (j : Fin 8) (a : Fin 2) : (![32 * j.val, 0] : Fin 2 → Nat) a + S32x256.size a ≤ S256x256.size a := by
  have := j.isLt
  fin_cases a <;> simp [S32x256, S256x256]; omega

/-- Rows `32 j` to `32 j + 31`. -/
abbrev rowsRect (j : Fin 8) : Rect S256x256 := Rect.unit (s := S256x256) ![32 * j.val, 0] S32x256.size (rows_inb j)

abbrev outM : Memref sig .tc .vmem S256x256 .f32 := Memref.whole cc0_stg4_0

/-- The chunk a row lies in, and its place there. -/
def chunkOf (i : S256x256.Idx) : Fin 8 := ⟨(i 0).val / 32, by have : (i 0).val < 256 := (i 0).isLt; omega⟩
def inChunk (i : S256x256.Idx) : S32x256.Idx := fun a =>
  match a with
  | ⟨0, _⟩ => ⟨(i 0).val % 32, Nat.mod_lt _ (by decide)⟩
  | ⟨1, _⟩ => ⟨(i 1).val, (i 1).isLt⟩

/-- The array whose chunk `j` is `v j`. -/
def glue2 (v : Fin 8 → Vec F S32x256 .f32) : S256x256.Idx → Elt F .f32 := fun i => v (chunkOf i) (inChunk i)

theorem chunkOf_emb (j : Fin 8) (x : S32x256.Idx) : chunkOf ((rowsRect j).emb x) = j := by
  have : (x 0).val < 32 := (x 0).isLt
  refine Fin.ext ?_
  show (32 * j.val + 1 * (x 0).val) / 32 = j.val
  omega

theorem inChunk_emb (j : Fin 8) (x : S32x256.Idx) : inChunk ((rowsRect j).emb x) = x := by
  have : (x 0).val < 32 := (x 0).isLt
  funext a
  match a with
  | ⟨0, _⟩ => exact Fin.ext (show (32 * j.val + 1 * (x 0).val) % 32 = (x 0).val by omega)
  | ⟨1, _⟩ => exact Fin.ext (show 0 + 1 * (x 1).val = (x 1).val by omega)

theorem emb_inChunk (i : S256x256.Idx) : (rowsRect (chunkOf i)).emb (inChunk i) = i := by
  funext a
  match a with
  | ⟨0, _⟩ => exact Fin.ext (show 32 * ((i 0).val / 32) + 1 * ((i 0).val % 32) = (i 0).val by omega)
  | ⟨1, _⟩ => exact Fin.ext (show 0 + 1 * (i 1).val = (i 1).val by omega)

/-- Every array is glued of its own chunks. -/
theorem glue2_reads (f : S256x256.Idx → Elt F .f32) :
    glue2 (fun j => (outM.access (rowsRect j)).read (Elt F) f) = f := by
  funext i
  show f ((rowsRect (chunkOf i)).emb (inChunk i)) = f i
  rw [emb_inChunk]

/-- Reading chunk `j` gives its part. -/
theorem read_glue2 (v : Fin 8 → Vec F S32x256 .f32) (j : Fin 8) :
    (outM.access (rowsRect j)).read (Elt F) (glue2 v) = v j := by
  funext x
  show glue2 v ((rowsRect j).emb x) = v j x
  unfold glue2; rw [chunkOf_emb, inChunk_emb]

/-- Storing `w` to chunk `j` replaces that part. -/
theorem write_glue2 (v : Fin 8 → Vec F S32x256 .f32) (j : Fin 8) (w : Vec F S32x256 .f32) :
    (outM.access (rowsRect j)).write (Elt F) (glue2 v) w Finset.univ = glue2 (Function.update v j w) := by
  funext i
  by_cases hi : chunkOf i = j
  · have hi' : i = (rowsRect j).emb (inChunk i) := by rw [← hi, emb_inChunk]
    have h := View.write_emb_of_mem (v := outM.access (rowsRect j)) (Val := Elt F) (glue2 v) w (Finset.mem_univ (inChunk i))
    have h' : (outM.access (rowsRect j)).write (Elt F) (glue2 v) w Finset.univ i = w (inChunk i) :=
      (congrArg ((outM.access (rowsRect j)).write (Elt F) (glue2 v) w Finset.univ) hi').trans h
    rw [h']; unfold glue2; rw [hi, Function.update_self]
  · rw [View.write_of_not_mem]
    · unfold glue2; rw [Function.update_of_ne hi]
    · intro h
      obtain ⟨x, -, rfl⟩ := Finset.mem_map.mp h
      exact hi (chunkOf_emb j x)

end Cert.MoE

end
-- ==== Proof.Protocol.lean ====
/-
The protocol between the four devices, before any of the kernel's code.

A device has two partners: in the one direction `c` and `c xor 1`, in the other `c` and `3 - c`. Slot
`(s, j)` is exchanged with the first when `s + j` is even and with the second when it is odd: the
device sends its `sbuf` slot into its partner's `comm` slot of the same name.

Semaphore cells of a device, each used for one round:
  * the barrier: each partner adds one unit, and with it hands over its own landing slots for that
    partnership; a device takes both before its first transfer;
  * one send cell per slot: the transfer credits it when its source may be used again, and hands back
    the source slot;
  * one receive cell per slot: the partner's transfer credits it on arrival, and hands over the landing
    slot holding what the partner sent.
What is sent is a parameter here: `sent c q` is what device `c` puts into slot `q`.
-/
module

public import proofs.«01_k».proof.Proof.Slots
public import proofs.«01_k».proof.Proof.Gen.KernelIdeal.Launch
public import Idealize.ShloMosaic.Lib.Pipeline.Launch

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The protocol's own resources: rounds of semaphore cells, duties named by a truth value. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

set_option backward.proofsInPublic true in
/-- The partner of a device: `c xor 1` at `false`, `3 - c` at `true`. -/
def pr (b : Bool) (c : Dev nD) : Dev nD :=
  bif b then ⟨3 - c.val, Nat.lt_of_le_of_lt (Nat.sub_le _ _) (by decide)⟩ else ⟨(c.val ^^^ 1) % 4, Nat.mod_lt _ (by decide)⟩

theorem pr_pr (b : Bool) (c : Dev nD) : pr b (pr b c) = c := by revert b c; decide

/-- Partnership as a rearrangement of the devices. -/
def prEquiv (b : Bool) : Dev nD ≃ Dev nD := ⟨pr b, pr b, pr_pr b, pr_pr b⟩

/-- Which partner a slot is exchanged with. -/
def par (q : Slot) : Bool := decide ((q.1.val + q.2.val) % 2 = 1)

/-- The partner a slot is exchanged with. -/
abbrev mate (q : Slot) (c : Dev nD) : Dev nD := pr (par q) c

theorem mate_mate (q : Slot) (c : Dev nD) : mate q (mate q c) = c := pr_pr _ _

/-- The position of a slot in program order. -/
def lin (q : Slot) : ℕ := 8 * q.1.val + q.2.val

theorem lin_inj {q q' : Slot} (h : lin q = lin q') : q = q' := by revert q q'; decide
theorem lin_lt (q : Slot) : lin q < 16 := by revert q; decide

/-! ## Cells -/

theorem sem_inb (q : Slot) (a : Fin 2) : (![q.1.val, q.2.val] : Fin 2 → Nat) a + S1x1.size a ≤ S2x8.size a := by
  obtain ⟨s, j⟩ := q
  have := s.isLt; have := j.isLt
  fin_cases a <;> simp [S1x1, S2x8] <;> omega

/-- The barrier, and slot `q`'s send and receive semaphores, as the kernel names them. -/
abbrev barS : Sem sig := (SemArray.scalar (sig.barrier 0 rfl) : Sems sig S_).sem
abbrev sndS (q : Slot) : DmaSem sig :=
  ((cc0_scratch2.slice (Rect.unit (s := S2x8) ![q.1.val, q.2.val] S1x1.size (sem_inb q))).squeeze S_ squeezes_S1x1_S_).sem
abbrev rcvS (q : Slot) : DmaSem sig :=
  ((cc0_scratch3.slice (Rect.unit (s := S2x8) ![q.1.val, q.2.val] S1x1.size (sem_inb q))).squeeze S_ squeezes_S1x1_S_).sem

/-- A device's protocol cells: the barrier, or the send (`false`) or receive (`true`) cell of a slot. -/
abbrev CK : Type := Option (Bool × Slot)

/-- A slot's two semaphores. -/
abbrev osem (k : Bool × Slot) : SemLoc sig := .dma (bif k.1 then rcvS k.2 else sndS k.2)
abbrev csem (k : CK) : SemLoc sig := k.elim (.reg barS) osem

/-- Which protocol cell a semaphore is. -/
def kindOf : SemLoc sig → Option CK
  | .reg s => if s = barS then some none else none
  | .dma k =>
    if k.val < 5 then none
    else if k.val < 21 then some (some (false, (⟨(k.val - 5) / 8 % 2, Nat.mod_lt _ Nat.two_pos⟩, ⟨(k.val - 5) % 8, Nat.mod_lt _ (Nat.succ_pos 7)⟩)))
    else some (some (true, (⟨(k.val - 21) / 8 % 2, Nat.mod_lt _ Nat.two_pos⟩, ⟨(k.val - 21) % 8, Nat.mod_lt _ (Nat.succ_pos 7)⟩)))

theorem kindOf_csem (k : CK) : kindOf (csem k) = some k := by
  revert k; decide +kernel

theorem csem_injective : Function.Injective csem := fun a b h => by
  have := congrArg kindOf h
  rw [kindOf_csem, kindOf_csem] at this
  exact Option.some.inj this

abbrev cell (c : Dev nD) (k : CK) : GSem nD τ sig := ((c : Thread nD τ), csem k)
abbrev barCell (c : Dev nD) : GSem nD τ sig := ((c : Thread nD τ), .reg barS)
abbrev sndCell (c : Dev nD) (q : Slot) : GSem nD τ sig := ((c : Thread nD τ), .dma (sndS q))
abbrev rcvCell (c : Dev nD) (q : Slot) : GSem nD τ sig := ((c : Thread nD τ), .dma (rcvS q))

theorem cell_injective : Function.Injective (fun ck : Dev nD × CK => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-- What a slot's transfer credits. -/
abbrev N : ℕ := (commSlot (0, 0)).view.dmaCredit
theorem N_pos : 0 < N := View.dmaCredit_pos _ (by decide)

/-! ## What the cells hand over -/

/-- Slot `q` of a device's two buffers. -/
def commPts (c : Dev nD) (q : Slot) (f : Buf (Elt F) ((c : Thread nD τ).loc cc0_scratch0)) : sProp 𝕄 :=
  ((c : Thread nD τ).loc cc0_scratch0) ↦[slotSet q]{fullShare} f
def sbufPts (c : Dev nD) (q : Slot) (f : Buf (Elt F) ((c : Thread nD τ).loc cc0_scratch1)) : sProp 𝕄 :=
  ((c : Thread nD τ).loc cc0_scratch1) ↦[slotSet q]{fullShare} f

instance commPts_storable (c : Dev nD) (q : Slot) (f) : BI.Storable (upEmb : UEmb _ 𝕄) (commPts (F := F) c q f) := by
  unfold commPts; infer_instance
instance sbufPts_storable (c : Dev nD) (q : Slot) (f) : BI.Storable (upEmb : UEmb _ 𝕄) (sbufPts (F := F) c q f) := by
  unfold sbufPts; infer_instance

variable (sent : Dev nD → Slot → Vec F S1x1x32x256 .bf16)

/-- Device `c`'s slot, and all its landing slots: what its partners put there. -/
def landed (c : Dev nD) (q : Slot) : Vec F S1x1x32x256 .bf16 := sent (mate q c) q

/-- The landing slot of `c`'s partner for slot `q`, contents unknown. -/
def land (c : Dev nD) (q : Slot) : sProp 𝕄 := iprop(∃ f, commPts (F := F) (mate q c) q f)

/-- What partner `b` hands device `c` at the barrier: its landing slots for transfers from `c`. -/
def barPay (c : Dev nD) (b : Bool) : sProp 𝕄 := bigSep (Finset.univ.filter fun q : Slot => par q = b) (land (F := F) c)
def sndPay (c : Dev nD) (q : Slot) : sProp 𝕄 := sbufPts c q (glue4 (sent c))
def rcvPay (c : Dev nD) (q : Slot) : sProp 𝕄 := commPts c q (glue4 (landed sent c))

instance land_storable (c : Dev nD) (q : Slot) : BI.Storable (upEmb : UEmb _ 𝕄) (land (F := F) c q) := by
  unfold land; infer_instance
instance barPay_storable (c : Dev nD) (b : Bool) : BI.Storable (upEmb : UEmb _ 𝕄) (barPay (F := F) c b) := by
  unfold barPay; infer_instance

/-- The payload of a protocol cell. -/
def payOf (c : Dev nD) (d : Bool) : Option CK → sProp 𝕄
  | none => iprop(emp)
  | some none => barPay c d
  | some (some (false, q)) => sndPay sent c q
  | some (some (true, q)) => rcvPay sent c q

instance payOf_storable (c : Dev nD) (d : Bool) (k : Option CK) : BI.Storable (upEmb : UEmb _ 𝕄) (payOf sent c d k) := by
  rcases k with _ | _ | ⟨_ | _, q⟩ <;> unfold payOf
  · infer_instance
  · infer_instance
  · show BI.Storable _ (sndPay sent c q); unfold sndPay; infer_instance
  · show BI.Storable _ (rcvPay sent c q); unfold rcvPay; infer_instance

/-- The duties of a protocol cell's one round: both partners' at the barrier, one at a slot's cell. -/
def dutiesOf : Option CK → Finset Bool
  | none => ∅
  | some none => Finset.univ
  | some (some _) => {false}

/-- One unit at the barrier, the slot's credit elsewhere. -/
def amountOf : Option CK → ℕ
  | some none => 1
  | _ => N

/-- The schedule: every protocol cell of a TensorCore has one round. -/
def Rd : Rounds.Schedule (GSem nD τ sig) Bool 𝕄 where
  duties g r := if r = 0 ∧ g.1.2 = .tc then dutiesOf (kindOf g.2) else ∅
  unitless _ := False
  amount g _ _ := amountOf (kindOf g.2)
  payload g _ d := payOf sent g.1.1 d (kindOf g.2)
  amount_pos g _ _ _ := by
    show 0 < amountOf (kindOf g.2)
    rcases kindOf g.2 with _ | _ | _
    · exact N_pos
    · exact Nat.one_pos
    · exact N_pos

instance Rd_payload_storable (g : GSem nD τ sig) (r : ℕ) (d : Bool) :
    BI.Storable (upEmb : UEmb _ 𝕄) ((Rd sent).payload g r d) := payOf_storable sent _ _ _

section Sched
variable (c : Dev nD) (q : Slot)

theorem kindOf_bar : kindOf (.reg barS) = some none := kindOf_csem none
theorem kindOf_snd : kindOf (.dma (sndS q)) = some (some (false, q)) := kindOf_csem (some (false, q))
theorem kindOf_rcv : kindOf (.dma (rcvS q)) = some (some (true, q)) := kindOf_csem (some (true, q))

theorem duties_bar : (Rd sent).duties (barCell c) 0 = Finset.univ := by
  dsimp only [Rd]
  rw [if_pos (by exact ⟨rfl, rfl⟩)]
  show dutiesOf (kindOf (.reg barS)) = _
  rw [kindOf_bar]; rfl
theorem duties_snd : (Rd sent).duties (sndCell c q) 0 = {false} := by
  dsimp only [Rd]
  rw [if_pos (by exact ⟨rfl, rfl⟩)]
  show dutiesOf (kindOf (.dma (sndS q))) = _
  rw [kindOf_snd]; rfl
theorem duties_rcv : (Rd sent).duties (rcvCell c q) 0 = {false} := by
  dsimp only [Rd]
  rw [if_pos (by exact ⟨rfl, rfl⟩)]
  show dutiesOf (kindOf (.dma (rcvS q))) = _
  rw [kindOf_rcv]; rfl
theorem duties_later (g : GSem nD τ sig) : ∀ r, 1 ≤ r → (Rd sent).duties g r = ∅ := fun r hr => by
  exact if_neg fun h => by omega

theorem amount_bar (d : Bool) : (Rd sent).amount (barCell c) 0 d = 1 := by
  show amountOf (kindOf (.reg barS)) = 1; rw [kindOf_bar]; rfl
theorem amount_snd (d : Bool) : (Rd sent).amount (sndCell c q) 0 d = N := by
  show amountOf (kindOf (.dma (sndS q))) = N; rw [kindOf_snd]; rfl
theorem amount_rcv (d : Bool) : (Rd sent).amount (rcvCell c q) 0 d = N := by
  show amountOf (kindOf (.dma (rcvS q))) = N; rw [kindOf_rcv]; rfl

theorem payload_bar (d : Bool) : (Rd sent).payload (barCell c) 0 d = barPay c d := by
  show payOf sent c d (kindOf (.reg barS)) = _; rw [kindOf_bar]; rfl
theorem payload_snd (d : Bool) : (Rd sent).payload (sndCell c q) 0 d = sndPay sent c q := by
  show payOf sent c d (kindOf (.dma (sndS q))) = _; rw [kindOf_snd]; rfl
theorem payload_rcv (d : Bool) : (Rd sent).payload (rcvCell c q) 0 d = rcvPay sent c q := by
  show payOf sent c d (kindOf (.dma (rcvS q))) = _; rw [kindOf_rcv]; rfl

theorem expect_bar : (Rd sent).expect (barCell c) 0 = 2 := by
  unfold Schedule.expect Schedule.amountOf
  rw [duties_bar, Finset.sum_congr rfl fun d _ => amount_bar sent c d, Finset.sum_const, Finset.card_univ, Fintype.card_bool, smul_eq_mul]
theorem expect_snd : (Rd sent).expect (sndCell c q) 0 = N := by
  unfold Schedule.expect Schedule.amountOf; rw [duties_snd, Finset.sum_singleton, amount_snd]
theorem expect_rcv : (Rd sent).expect (rcvCell c q) 0 = N := by
  unfold Schedule.expect Schedule.amountOf; rw [duties_rcv, Finset.sum_singleton, amount_rcv]

/-- The barrier's round hands over every landing slot a device will send into. -/
theorem rest_bar : bigSep ((Rd sent).duties (barCell c) 0 \ ∅) (fun d => (Rd sent).payload (barCell c) 0 d) = bigSep Finset.univ (land (F := F) c) := by
  rw [Finset.sdiff_empty, duties_bar, bigSep_univ_eq_bigSepL [false, true] (by decide) (by decide), bigSepL_cons_cons, bigSepL_singleton,
    payload_bar, payload_bar, bigSep_filter_split Finset.univ (fun q : Slot => par q = false)]
  unfold barPay
  rw [show (Finset.univ.filter fun q : Slot => par q = true) = Finset.univ.filter (fun q : Slot => ¬ par q = false) from
    Finset.filter_congr fun q _ => by simp]
theorem rest_snd : bigSep ((Rd sent).duties (sndCell c q) 0 \ ∅) (fun d => (Rd sent).payload (sndCell c q) 0 d) = sndPay sent c q := by
  rw [Finset.sdiff_empty, duties_snd, bigSep_singleton, payload_snd]
theorem rest_rcv : bigSep ((Rd sent).duties (rcvCell c q) 0 \ ∅) (fun d => (Rd sent).payload (rcvCell c q) 0 d) = rcvPay sent c q := by
  rw [Finset.sdiff_empty, duties_rcv, bigSep_singleton, payload_rcv]

end Sched

/-! ## What a device owes, and the order of waits -/

/-- The slots from the `n`-th on, in program order. -/
def ahead (n : ℕ) : Finset Slot := Finset.univ.filter fun q => n ≤ lin q

theorem ahead_zero : ahead 0 = Finset.univ := Finset.filter_true_of_mem fun _ _ => Nat.zero_le _
theorem ahead_end : ahead 16 = ∅ := Finset.filter_false_of_mem fun q _ => by have := lin_lt q; omega
theorem not_mem_ahead (q : Slot) : q ∉ ahead (lin q + 1) := fun h => by
  have := (Finset.mem_filter.mp h).2; omega
theorem ahead_step (q : Slot) : ahead (lin q) = insert q (ahead (lin q + 1)) := by
  ext q'
  simp only [ahead, Finset.mem_filter, Finset.mem_univ, true_and, Finset.mem_insert]
  constructor
  · intro h
    by_cases e : lin q' = lin q
    · exact .inl (lin_inj e)
    · right; omega
  · rintro (rfl | h) <;> omega

/-- What a device still owes its partners' receive cells before its `n`-th transfer. -/
def owe (c : Dev nD) (n : ℕ) : CellTallies nD τ sig Unit := ∑ q ∈ ahead n, tallyAt (rcvCell (mate q c) q) () N

theorem owe_step (c : Dev nD) (q : Slot) : owe c (lin q) = owe c (lin q + 1) + tallyAt (rcvCell (mate q c) q) () N := by
  unfold owe; rw [ahead_step, Finset.sum_insert (not_mem_ahead q), add_comm]
theorem owe_end (c : Dev nD) : owe c 16 = 0 := by unfold owe; rw [ahead_end, Finset.sum_empty]

/-- At launch a device owes its sixteen transfers and one unit to each partner's barrier. -/
def O₁ (c : Dev nD) : CellTallies nD τ sig Unit := owe c 0 + tallyAt (barCell (pr true c)) () 1
def O₀ (c : Dev nD) : CellTallies nD τ sig Unit := O₁ c + tallyAt (barCell (pr false c)) () 1

/-- The level of a wait: barriers above everything of the pipeline and the send cells, a slot's arrival above the barriers
    and above the arrivals before it in program order. -/
def lvS : Option CK → ℕ
  | none => 0
  | some none => 1
  | some (some (false, _)) => 0
  | some (some (true, q)) => 2 + lin q
def lv (g : GSem nD τ sig) (_ : Unit) : ℕ := lvS (kindOf g.2)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {n : ℕ} {g : GSem nD τ sig} {u : Unit} (h : 0 < owe c n g u) :
    ∃ q, n ≤ lin q ∧ g = rcvCell (mate q c) q := by
  unfold owe at h
  rw [Finset.sum_apply, Finsupp.finset_sum_apply] at h
  obtain ⟨q, hq, hp⟩ := Finset.exists_ne_zero_of_sum_ne_zero (Nat.pos_iff_ne_zero.mp h)
  refine ⟨q, (Finset.mem_filter.mp hq).2, ?_⟩
  by_contra hn
  exact hp (by rw [tallyAt_apply, if_neg fun h' => hn h'.1])

theorem O₀_pos {c : Dev nD} {g : GSem nD τ sig} {u : Unit} (h : 0 < O₀ c g u) :
    (∃ q, g = rcvCell (mate q c) q) ∨ ∃ b, g = barCell (pr b c) := by
  unfold O₀ O₁ at h
  rw [Pi.add_apply, Finsupp.add_apply, Pi.add_apply, Finsupp.add_apply, tallyAt_apply, tallyAt_apply] at h
  by_cases h1 : 0 < owe c 0 g u
  · obtain ⟨q, -, e⟩ := owe_pos h1; exact .inl ⟨q, e⟩
  by_cases h2 : g = barCell (pr true c)
  · exact .inr ⟨_, h2⟩
  by_cases h3 : g = barCell (pr false c)
  · exact .inr ⟨_, h3⟩
  rw [if_neg fun h' => h2 h'.1, if_neg fun h' => h3 h'.1] at h
  omega

theorem lv_rcv (c : Dev nD) (q : Slot) (u : Unit) : lv (rcvCell c q) u = 2 + lin q := by
  show lvS (kindOf (.dma (rcvS q))) = _; rw [kindOf_rcv]; rfl
theorem lv_snd (c : Dev nD) (q : Slot) (u : Unit) : lv (sndCell c q) u = 0 := by
  show lvS (kindOf (.dma (sndS q))) = _; rw [kindOf_snd]; rfl
theorem lv_bar (c : Dev nD) (u : Unit) : lv (barCell c) u = 1 := by
  show lvS (kindOf (.reg barS)) = _; rw [kindOf_bar]; rfl

/-- A wait below the level of everything still owed is allowed. -/
theorem mayWait_owe (c : Dev nD) (sm : SemLoc sig) (n : ℕ) (h : lv ((c : Thread nD τ), sm) () < 2 + n) :
    (levAts L lv : sProp 𝕄) ⊢ MayWait (c : Thread nD τ) sm () (owe c n) :=
  MayOwe.of_cut (L := L) (lev := lv) (lv ((c : Thread nD τ), sm) ()) (fun p hp => by rw [Finset.mem_singleton.mp hp, L_tc]; exact Finset.mem_singleton_self _)
    (fun g u hg => by obtain ⟨q, -, rfl⟩ := owe_pos hg; rw [L_tc]; exact Finset.mem_singleton_self _)
    (fun p hp => by rw [Finset.mem_singleton.mp hp])
    (fun g u hg => by obtain ⟨q, hq, rfl⟩ := owe_pos hg; rw [lv_rcv]; omega)

/-- So are the pipeline's own waits, whatever of the protocol is still owed. -/
theorem mayWait_stage (c : Dev nD) (k : DmaSem sig) (hk : kindOf (.dma k) = none) (O : CellTallies nD τ sig Unit) (hO : O = O₀ c ∨ O = 0) :
    (levAts L lv : sProp 𝕄) ⊢ MayWait (c : Thread nD τ) (.dma k) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨q, rfl⟩ | ⟨b, rfl⟩ <;> rw [L_tc] <;> exact Finset.mem_singleton_self _)
      (fun p hp => by rw [Finset.mem_singleton.mp hp]; show lvS (kindOf (.dma k)) ≤ 0; rw [hk]; exact Nat.le_refl 0)
      (fun g u hg => by
        rcases O₀_pos hg with ⟨q, rfl⟩ | ⟨b, rfl⟩
        · rw [lv_rcv]; omega
        · rw [lv_bar]; exact Nat.one_pos)
  · rw [MayWait_zero]; iintro -; iempintro

end Cert.MoE

end
-- ==== Proof.Steps.lean ====
/-
One step of the kernel at a time.

A running device is described by three things: the stage each slot is in, what the device still owes
its partners, and the result so far, chunk by chunk. For each kind of operation the kernel performs on
them — a load, a store, a transfer, the waits for a transfer — there is one lemma, for every device,
slot and chunk, which says how that description changes.
-/
module

public import proofs.«01_k».proof.Proof.Protocol

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (sent : Dev nD → Slot → Vec F S1x1x32x256 .bf16) (K : Dev nD × CK → ℕ)

/-! ## The description of a running device -/

/-- Every protocol cell's invariant, at the names `K`, that each has reached its round, and the levels. -/
def records : sProp 𝕄 :=
  iprop((bigSep Finset.univ fun ck : Dev nD × CK => cellInv ER (Rd sent) (K ck) (cell ck.1 ck.2))
    ∗ (bigSep Finset.univ fun ck : Dev nD × CK => reached ER (cell ck.1 ck.2) 0) ∗ levAts L lv)

instance records_persistent : BI.Persistent (records sent K) := by unfold records; infer_instance

/-- One member of a separating conjunction over all. -/
theorem pick {ι : Type} [Fintype ι] [DecidableEq ι] (Φ : ι → sProp 𝕄) (i : ι) : bigSep Finset.univ Φ ⊢ Φ i :=
  bigSep_elim (Finset.mem_univ i)
/-- One member taken out of all. -/
theorem pick_erase {ι : Type} [DecidableEq ι] {s : Finset ι} {i : ι} (hi : i ∈ s) (Φ : ι → sProp 𝕄) :
    bigSep s Φ = iprop(Φ i ∗ bigSep (s.erase i) Φ) := bigSep_erase hi
/-- One member put in front. -/
theorem put_insert {ι : Type} [DecidableEq ι] {s : Finset ι} {i : ι} (hi : i ∉ s) (Φ : ι → sProp 𝕄) :
    bigSep (insert i s) Φ = iprop(Φ i ∗ bigSep s Φ) := bigSep_insert hi

theorem inv_at (ck : Dev nD × CK) : records sent K ⊢ cellInv ER (Rd sent) (K ck) (cell ck.1 ck.2) := by
  unfold records
  iintro ⟨#H, -, -⟩
  iapply (pick (fun ck : Dev nD × CK => (cellInv ER (Rd sent) (K ck) (cell ck.1 ck.2) : sProp 𝕄)) ck); iexact H
theorem reached_at (ck : Dev nD × CK) : records sent K ⊢ reached ER (cell ck.1 ck.2) 0 := by
  unfold records
  iintro ⟨-, #H, -⟩
  iapply (pick (fun ck : Dev nD × CK => (reached ER (cell ck.1 ck.2) 0 : sProp 𝕄)) ck); iexact H
theorem lev_at : records sent K ⊢ levAts L lv := by
  unfold records; iintro ⟨-, -, #H⟩; iexact H

/-- The stages of a slot: its source not yet written; written; under way; arrived, both ways. -/
inductive Stage where
  | raw | full | flight | done
  deriving DecidableEq

/-- What a slot needs for its transfer and its two waits. -/
def kit (c : Dev nD) (q : Slot) : sProp 𝕄 :=
  iprop(dutyTok ER (sndCell c q) 0 false ∗ dutyTok ER (rcvCell (mate q c) q) 0 false
    ∗ cred (tallyAt (rcvCell c q) () N) ∗ atPos ER (sndCell c q) 0 ∅ 0 ∗ atPos ER (rcvCell c q) 0 ∅ 0)

/-- What device `c` holds of slot `q` at each stage. -/
def slotRes (c : Dev nD) (q : Slot) : Stage → sProp 𝕄
  | .raw => iprop((∃ f, sbufPts c q f) ∗ kit c q)
  | .full => iprop(sndPay sent c q ∗ kit c q)
  | .flight => iprop(cred (tallyAt (sndCell c q) () N) ∗ cred (tallyAt (rcvCell c q) () N)
      ∗ atPos ER (sndCell c q) 0 ∅ 0 ∗ atPos ER (rcvCell c q) 0 ∅ 0)
  | .done => iprop(sndPay sent c q ∗ rcvPay sent c q ∗ atPos ER (sndCell c q) (0 + 1) ∅ 0 ∗ atPos ER (rcvCell c q) (0 + 1) ∅ 0)

/-- The result buffer. -/
def outPts (c : Dev nD) (f : Buf (Elt F) ((c : Thread nD τ).loc cc0_stg4_0)) : sProp 𝕄 :=
  ((c : Thread nD τ).loc cc0_stg4_0) ↦{fullShare} f

/-- A running device: its slots, what it owes before its `n`-th transfer, its result's chunks. -/
def St (c : Dev nD) (σ : Slot → Stage) (n : ℕ) (v : Fin 8 → Vec F S32x256 .f32) : sProp 𝕄 :=
  iprop((bigSep Finset.univ fun q => slotRes sent c q (σ q)) ∗ (∃ W, owes (c : Thread nD τ) (owe c n) W) ∗ outPts c (glue2 v))

/-- The landing slots of partners a device has yet to send into. -/
def lands (c : Dev nD) (n : ℕ) : sProp 𝕄 := bigSep (ahead n) (land (F := F) c)

variable {σ : Slot → Stage} {n : ℕ} {v : Fin 8 → Vec F S32x256 .f32} {c : Dev nD} {q : Slot}

/-- One slot out of all, and back at another stage. -/
theorem slots_take (s s' : Stage) (h : σ q = s) :
    (bigSep Finset.univ fun q => slotRes sent c q (σ q))
      ⊢ iprop(slotRes sent c q s ∗ (slotRes sent c q s' -∗ bigSep Finset.univ fun q' => slotRes sent c q' (Function.update σ q s' q'))) := by
  subst h
  rw [pick_erase (Finset.mem_univ q), pick_erase (Finset.mem_univ q) (fun q' => slotRes sent c q' (Function.update σ q s' q')),
    Function.update_self, bigSep_congr (s := Finset.univ.erase q) (Φ := fun q' => slotRes sent c q' (Function.update σ q s' q'))
      (Ψ := fun q' => slotRes sent c q' (σ q')) fun q' hq' => by rw [Function.update_of_ne (Finset.ne_of_mem_erase hq')]]
  iintro ⟨H1, H2⟩
  isplitl [H1]; · iexact H1
  iintro H1
  isplitl [H1]; · iexact H1
  iexact H2

/-- Putting a slot back at the stage it is in changes nothing. -/
theorem update_same {s : Stage} (h : σ q = s) : Function.update σ q s = σ := by
  subst h; exact Function.update_eq_self _ _

/-! ## Loads and stores of the result -/

/-- A load of chunk `j` of the result reads it. -/
theorem wp_load_out {α : Type} {Φ : α → sProp 𝕄} (j : Fin 8) {hl : outM.view.LoadsAt (rowsRect j).toLoadRect}
    {k : Vec F S32x256 .f32 → Prog (TpuEff nD τ sig (Elt F) Λ₀ .tc) α} :
    St sent c σ n v ⊢ iprop((St sent c σ n v -∗ wpc c (k (v j)) Φ) -∗ wpc c (.op (.load outM (rowsRect j).toLoadRect hl) k) Φ) := by
  unfold St outPts
  iintro ⟨Hs, Ho, Hv⟩ Hk
  iapply (wp_load_rect 𝒱₀ (c : Thread nD τ) none Set.univ (m := outM) (r := rowsRect j) (k := k) (Finset.subset_univ _)) $$ Hv
  iintro Hv
  rw [show (outM.access (rowsRect j)).read (Elt F) (glue2 v) = v j from read_glue2 v j]
  iapply Hk
  isplitl [Hs]; · iexact Hs
  isplitl [Ho]; · iexact Ho
  iexact Hv

/-- A store to chunk `j` of the result replaces it. -/
theorem wp_store_out {α : Type} {Φ : α → sProp 𝕄} (j : Fin 8) (w : Vec F S32x256 .f32) {hx : (outM.access (rowsRect j)).Stores Finset.univ}
    {hm : (Finset.univ : Finset (rowsRect j).shape.Idx) = Finset.univ ∨ ∀ a, (rowsRect j).stride a = 1}
    {k : PUnit → Prog (TpuEff nD τ sig (Elt F) Λ₀ .tc) α} :
    St sent c σ n v ⊢ iprop((St sent c σ n (Function.update v j w) -∗ wpc c (k ⟨⟩) Φ)
      -∗ wpc c (.op (.store outM (rowsRect j) w Finset.univ hx hm) k) Φ) := by
  unfold St outPts
  iintro ⟨Hs, Ho, Hv⟩ Hk
  iapply (wp_store 𝒱₀ (c : Thread nD τ) none Set.univ (m := outM) (r := rowsRect j) (w := w) (Mk := Finset.univ) (Finset.subset_univ _)) $$ Hv
  iintro Hv
  rw [show (outM.access (rowsRect j)).write (Elt F) (glue2 v) w Finset.univ = glue2 (Function.update v j w) from write_glue2 v j w]
  iapply Hk
  isplitl [Hs]; · iexact Hs
  isplitl [Ho]; · iexact Ho
  iexact Hv

/-! ## Loads and stores of slots -/

/-- A load of a landing slot reads what the partner sent. -/
theorem wp_load_comm {α : Type} {Φ : α → sProp 𝕄} (q : Slot) (hq : σ q = .done) {hl : commM.view.LoadsAt (slotRect q).toLoadRect}
    {k : Vec F S1x1x32x256 .bf16 → Prog (TpuEff nD τ sig (Elt F) Λ₀ .tc) α} :
    St sent c σ n v ⊢ iprop((St sent c σ n v -∗ wpc c (k (landed sent c q)) Φ)
      -∗ wpc c (.op (.load commM (slotRect q).toLoadRect hl) k) Φ) := by
  unfold St
  iintro ⟨Hs, Ho, Hv⟩ Hk
  ihave Hs := (slots_take sent .done .done hq) $$ Hs
  icases Hs with ⟨Hq, Hs⟩
  unfold slotRes rcvPay commPts
  icases Hq with ⟨Hq1, Hq2, Hq3⟩
  iapply (wp_load_rect 𝒱₀ (c : Thread nD τ) none Set.univ (m := commM) (r := slotRect q) (k := k) (subset_of_eq (comm_access_set q))) $$ Hq2
  iintro Hq2
  rw [show (commM.access (slotRect q)).read (Elt F) (glue4 (landed sent c)) = landed sent c q from read_comm_glue4 _ q]
  iapply Hk
  isplitl [Hs Hq1 Hq2 Hq3]
  · rw [update_same hq]
    iapply Hs
    isplitl [Hq1]; · iexact Hq1
    isplitl [Hq2]; · iexact Hq2
    iexact Hq3
  isplitl [Ho]; · iexact Ho
  iexact Hv

/-- A load of a source slot before it is written reads something. -/
theorem wp_load_sbuf {α : Type} {Φ : α → sProp 𝕄} (q : Slot) (hq : σ q = .raw) {hl : sbufM.view.LoadsAt (slotRect q).toLoadRect}
    {k : Vec F S1x1x32x256 .bf16 → Prog (TpuEff nD τ sig (Elt F) Λ₀ .tc) α} :
    St sent c σ n v ⊢ iprop((∀ u, St sent c σ n v -∗ wpc c (k u) Φ)
      -∗ wpc c (.op (.load sbufM (slotRect q).toLoadRect hl) k) Φ) := by
  unfold St
  iintro ⟨Hs, Ho, Hv⟩ Hk
  ihave Hs := (slots_take sent .raw .raw hq) $$ Hs
  icases Hs with ⟨Hq, Hs⟩
  unfold slotRes sbufPts
  icases Hq with ⟨⟨%f, Hq1⟩, Hq2⟩
  iapply (wp_load_rect 𝒱₀ (c : Thread nD τ) none Set.univ (m := sbufM) (r := slotRect q) (k := k) (subset_of_eq (sbuf_access_set q))) $$ Hq1
  iintro Hq1
  iapply Hk
  isplitl [Hs Hq1 Hq2]
  · rw [update_same hq]
    iapply Hs
    isplitl [Hq1]; · iexists f; iexact Hq1
    iexact Hq2
  isplitl [Ho]; · iexact Ho
  iexact Hv

/-- The store that fills a source slot. -/
theorem wp_store_sbuf {α : Type} {Φ : α → sProp 𝕄} (q : Slot) (hq : σ q = .raw) (w : Vec F S1x1x32x256 .bf16) (hw : w = sent c q)
    {hx : (sbufM.access (slotRect q)).Stores Finset.univ}
    {hm : (Finset.univ : Finset (slotRect q).shape.Idx) = Finset.univ ∨ ∀ a, (slotRect q).stride a = 1}
    {k : PUnit → Prog (TpuEff nD τ sig (Elt F) Λ₀ .tc) α} :
    St sent c σ n v ⊢ iprop((St sent c (Function.update σ q .full) n v -∗ wpc c (k ⟨⟩) Φ)
      -∗ wpc c (.op (.store sbufM (slotRect q) w Finset.univ hx hm) k) Φ) := by
  subst hw
  unfold St
  iintro ⟨Hs, Ho, Hv⟩ Hk
  ihave Hs := (slots_take sent .raw .full hq) $$ Hs
  icases Hs with ⟨Hq, Hs⟩
  unfold slotRes
  icases Hq with ⟨⟨%f, Hq1⟩, Hq2⟩
  ihave Hq1 := (Entails.of_eq (by unfold sbufPts; rfl :
    sbufPts (F := F) c q f = (((c : Thread nD τ).loc cc0_scratch1) ↦[slotSet q]{fullShare} f : sProp 𝕄))) $$ Hq1
  iapply (wp_store 𝒱₀ (c : Thread nD τ) none Set.univ (m := sbufM) (r := slotRect q) (w := sent c q) (Mk := Finset.univ)
    (subset_of_eq ((View.setOn_univ _).trans (sbuf_access_set q)))) $$ Hq1
  iintro Hq1
  ihave Hq1 := (Entails.of_eq (pointsTo_congr (write_sbuf_glue4 (sent c) q f))) $$ Hq1
  iapply Hk
  isplitl [Hs Hq1 Hq2]
  · iapply Hs
    isplitl [Hq1]; · unfold sndPay sbufPts; iexact Hq1
    iexact Hq2
  isplitl [Ho]; · iexact Ho
  iexact Hv

/-! ## The transfer of a slot -/

/-- The transfer of slot `q` to its partner: the slot's source and the partner's landing slot go with it, and the device
    no longer owes it. -/
theorem wp_send {α : Type} {Φ : α → sProp 𝕄} (q : Slot) (hq : σ q = .full) (d : Dev nD) (hd : d = mate q c)
    {hsc : (commSlot q : Memref sig (Dev.tc d : Thread nD τ).2.kind .vmem S32x256 .bf16).view.ref.isScScratch = false}
    {hsrc : (sbufSlot q).view.WordExact} {hdst : (commSlot q).view.WordExact}
    {hsem : DmaTarget.Typed .vmem (.dma (rcvS q)) (.remote (Dev.tc d : Thread nD τ) (commSlot q) (.dma (sndS q)) hsc)}
    {k : PUnit → Prog (TpuEff nD τ sig (Elt F) Λ₀ .tc) α} :
    iprop(records sent K ∗ St sent c σ (lin q) v ∗ lands (F := F) c (lin q))
      ⊢ iprop(((St sent c (Function.update σ q .flight) (lin q + 1) v ∗ lands (F := F) c (lin q + 1)) -∗ wpc c (k ⟨⟩) Φ)
        -∗ wpc c (.op (.enqueueDma (sbufSlot q) (.remote (Dev.tc d : Thread nD τ) (commSlot q) (.dma (sndS q)) hsc) (.dma (rcvS q)) hsrc hdst hsem) k) Φ) := by
  subst hd
  unfold St lands
  rw [ahead_step, put_insert (not_mem_ahead q)]
  iintro ⟨#HR, ⟨Hs, ⟨%W, Ho⟩, Hv⟩, Hl, Hls⟩ Hk
  ihave Hs := (slots_take sent .full .flight hq) $$ Hs
  icases Hs with ⟨Hq, Hs⟩
  unfold slotRes kit land
  icases Hq with ⟨Hq1, Ht1, Ht2, Hc, Ha1, Ha2⟩
  icases Hl with ⟨%fd, Hl⟩
  have hpts : sndPay sent c q = ((sbufSlot q).view.loc (c : Thread nD τ) ↦[(sbufSlot q).view.set]{fullShare} glue4 (sent c) : sProp 𝕄) := by
    rw [sbufSlot_set]; rfl
  have hland : commPts (mate q c) q fd = ((commSlot q).view.loc (mate q c : Thread nD τ) ↦[(commSlot q).view.set]{fullShare} fd : sProp 𝕄) := by
    rw [commSlot_set]; rfl
  have hmade : ((commSlot q).view.loc (mate q c : Thread nD τ) ↦[(commSlot q).view.set]{fullShare}
      ((commSlot q).view.write (Elt F) fd ((sbufSlot q).view.read (Elt F) (glue4 (sent c))) Finset.univ) : sProp 𝕄) = rcvPay sent (mate q c) q := by
    rw [commSlot_set]
    refine pointsTo_congr fun i hi => (write_comm_read_sbuf q fd (glue4 (sent c)) i hi).trans ?_
    have hs := mem_slotSet.mp hi
    unfold glue4 landed; rw [hs, mate_mate]
  ihave Hq1 := (Entails.of_eq hpts) $$ Hq1
  ihave Hl := (Entails.of_eq hland) $$ Hl
  iapply (Rounds.wp_send_pointsTo 𝒱₀ ER (Rd sent) (c : Thread nD τ) none (κ₁ := K (c, some (false, q))) (κ₂ := K (mate q c, some (true, q)))
      (k := k) (Q := Φ) (hsrc := hsrc) (hdst := hdst) (hsem := hsem)
      (r₁ := 0) (r₂ := 0) (d₁ := false) (d₂ := false) (fd := fd)
      (by rw [duties_snd]; exact Finset.mem_singleton_self _) (by rw [duties_rcv]; exact Finset.mem_singleton_self _)
      () () N rfl (amount_snd sent c q false) (amount_rcv sent (mate q c) q false) (owe c (lin q + 1)) (owe_step c q) (W := W)
      (by rw [payload_snd]; exact Entails.of_eq hpts.symm)
      (by rw [payload_rcv]; exact Entails.of_eq hmade)) $$ [Hq1 Hl Ho Ht1 Ht2]
  · isplitr; · iapply (inv_at sent K (c, some (false, q))); iexact HR
    isplitr; · iapply (inv_at sent K (mate q c, some (true, q))); iexact HR
    isplitl [Hq1]; · iexact Hq1
    isplitl [Hl]; · iexact Hl
    isplitl [Ho]; · iexact Ho
    isplitl [Ht1]; · iexact Ht1
    isplitr; · iapply (reached_at sent K (c, some (false, q))); iexact HR
    isplitl [Ht2]; · iexact Ht2
    iapply (reached_at sent K (mate q c, some (true, q))); iexact HR
  iintro ⟨Hcs, Ho⟩
  iapply Hk
  isplitr [Hls]
  · isplitl [Hs Hcs Hc Ha1 Ha2]
    · iapply Hs
      isplitl [Hcs]; · iexact Hcs
      isplitl [Hc]; · iexact Hc
      isplitl [Ha1]; · iexact Ha1
      iexact Ha2
    isplitl [Ho]; · iexists W; iexact Ho
    iexact Hv
  · iexact Hls

/-! ## The waits for a slot -/

/-- The two waits of a slot under way, its send's and its partner's: both buffers' slots come back. -/
theorem wp_waits {α : Type} {Φ : α → sProp 𝕄} (q : Slot) (hq : σ q = .flight) (hn : lin q < n)
    {h1 : (commSlot q).view.WordExact} {h2 : (sbufSlot q).view.WordExact} {h3 : (sbufSlot q).view.WordExact} {h4 : (commSlot q).view.WordExact}
    {k : PUnit → Prog (TpuEff nD τ sig (Elt F) Λ₀ .tc) α} :
    iprop(records sent K ∗ St sent c σ n v)
      ⊢ iprop((St sent c (Function.update σ q .done) n v -∗ wpc c (k ⟨⟩) Φ)
        -∗ wpc c (.op (.waitDma2 (sndS q) (commSlot q) (sbufSlot q) h1 h2) fun _ => .op (.waitDma2 (rcvS q) (sbufSlot q) (commSlot q) h3 h4) k) Φ) := by
  unfold St
  iintro ⟨#HR, Hs, ⟨%W, Ho⟩, Hv⟩ Hk
  ihave Hs := (slots_take sent .flight .done hq) $$ Hs
  icases Hs with ⟨Hq, Hs⟩
  unfold slotRes
  icases Hq with ⟨Hc1, Hc2, Ha1, Ha2⟩
  iapply (Rounds.wp_wait_rest_token 𝒱₀ ER (Rd sent) (c : Thread nD τ) none (κ := K (c, some (false, q)))
      (wpE_waitDma2_eq 𝒱₀ (c : Thread nD τ) none Set.univ) (Set.mem_univ _) () (O := owe c n) (W := W) (R := 0) (m := 0) (T := ∅)
      (by rw [Nat.zero_add, expect_snd])) $$ [Hc1 Ho Ha1]
  · isplitr; · iapply (inv_at sent K (c, some (false, q))); iexact HR
    isplitl [Hc1]; · iexact Hc1
    isplitl [Ho]; · iexact Ho
    isplitr
    · iapply (mayWait_owe c (.dma (sndS q)) n (by rw [lv_snd]; omega)); iapply (lev_at sent K); iexact HR
    iexact Ha1
  iintro ⟨Ho, Ha1, -, Hp1⟩
  ihave Hp1 := (Entails.of_eq (rest_snd sent c q)) $$ Hp1
  iapply (Rounds.wp_wait_rest_token 𝒱₀ ER (Rd sent) (c : Thread nD τ) none (κ := K (c, some (true, q)))
      (wpE_waitDma2_eq 𝒱₀ (c : Thread nD τ) none Set.univ) (Set.mem_univ _) () (O := owe c n) (W := insert (SemLoc.dma (sndS q), ()) W) (R := 0) (m := 0) (T := ∅)
      (by rw [Nat.zero_add, expect_rcv])) $$ [Hc2 Ho Ha2]
  · isplitr; · iapply (inv_at sent K (c, some (true, q))); iexact HR
    isplitl [Hc2]; · iexact Hc2
    isplitl [Ho]; · iexact Ho
    isplitr
    · iapply (mayWait_owe c (.dma (rcvS q)) n (by rw [lv_rcv]; omega)); iapply (lev_at sent K); iexact HR
    iexact Ha2
  iintro ⟨Ho, Ha2, -, Hp2⟩
  ihave Hp2 := (Entails.of_eq (rest_rcv sent c q)) $$ Hp2
  iapply Hk
  isplitl [Hs Hp1 Hp2 Ha1 Ha2]
  · iapply Hs
    isplitl [Hp1]; · iexact Hp1
    isplitl [Hp2]; · iexact Hp2
    isplitl [Ha1]; · iexact Ha1
    iexact Ha2
  isplitl [Ho]; · iexists _; iexact Ho
  iexact Hv

end Cert.MoE

end
-- ==== Proof.Program.lean ====
/-
The kernel's body as three loops.

The printed body lists its 160 memory operations one after another. Here the same operations are
written by chunk: what is done to chunk `j` is written once, and each phase is a list of chunks. The
two programs are the same term up to unfolding (`body_eq`), so whatever is proved of one holds of the other.
-/
module

public import proofs.«01_k».proof.Proof.Protocol
public import proofs.«01_k».proof.Proof.Gen.KernelIdeal.Skeleton

@[expose] public section

noncomputable section

namespace Cert.MoE

open Cert.KernelIdeal Cert.KernelIdeal.Gen
open Idealize.ShloMosaic
open Idealize.ShloMosaic.TcCoe
open Idealize.SL.Sem

variable {F : FTy → Type} [FloatOps F]

/-! ## The values -/

theorem slices_x (j : Fin 8) : S256x128.Slices ![32 * j.val, 0] S32x128 := by
  refine ⟨rfl, fun a => ?_⟩
  match a with
  | ⟨0, _⟩ => show 32 * j.val + 32 ≤ 256; omega
  | ⟨1, _⟩ => show 0 + 128 ≤ 128; omega
theorem slices_w (j : Fin 8) : S256x1.Slices ![32 * j.val, 0] S32x1 := by
  refine ⟨rfl, fun a => ?_⟩
  match a with
  | ⟨0, _⟩ => show 32 * j.val + 32 ≤ 256; omega
  | ⟨1, _⟩ => show 0 + 1 ≤ 1; omega

/-- The part of chunk `j`: its rows through the two experts `u0` and `u1`, weighted by `w0` and `w1`. -/
def chunkPart (w0 w1 : FVec F S256x1 .f32) (x : FVec F S256x128 .bf16) (u0 u1 : FVec F S128x256 .bf16) (j : Fin 8) : FVec F S32x256 .f32 :=
  addf
    (mulf (broadcastTo S32x256 (extractStridedSlice S32x1 ![32 * j.val, 0] w0 (slices_w j)) broadcasts_S32x1_S32x256)
      (matmul dot_S32x128_S128x256_S32x256_1_0_0_1_n_n none (extractStridedSlice S32x128 ![32 * j.val, 0] x (slices_x j)) u0
        (constant S32x256 .f32 0x00000000#32)))
    (mulf (broadcastTo S32x256 (extractStridedSlice S32x1 ![32 * j.val, 0] w1 (slices_w j)) broadcasts_S32x1_S32x256)
      (matmul dot_S32x128_S128x256_S32x256_1_0_0_1_n_n none (extractStridedSlice S32x128 ![32 * j.val, 0] x (slices_x j)) u1
        (constant S32x256 .f32 0x00000000#32)))

/-- A chunk as it is sent, and a sent chunk added to one. -/
def pack (v : FVec F S32x256 .f32) : FVec F S1x1x32x256 .bf16 :=
  shapeCast S1x1x32x256 (truncf .bf16 v bitsLt_bf16_f32) shapeCasts_S32x256_S1x1x32x256
def plus (v : Vec F S32x256 .f32) (u : Vec F S1x1x32x256 .bf16) : FVec F S32x256 .f32 :=
  addf (shapeCast S32x256 v shapeCasts_S32x256_S32x256) (extf .f32 (shapeCast S32x256 u shapeCasts_S1x1x32x256_S32x256) bitsLt_bf16_f32)

/-- The weights of the two experts, from the device's number and what it loads: `x`, the router's matrix, and the two
    columns of the routing. -/
def weight0 (d : Dev nD) (x : Vec F S256x128 .f32) (r : Vec F S128x8 .f32) (i0 i1 : Vec F S256x1 .i32) : FVec F S256x1 .f32 :=
  k0_pay7 (Scalar.remsi (Scalar.divsi (Dev.word d) 1#32) 4#32) (k0_pay2 x r) (k0_pay3 i0) (k0_pay4 i1)
    (iota .tc S256x8 32 [1] iota_S256x8_d1_w32) (k0_pay5 x r i0)
def weight1 (d : Dev nD) (x : Vec F S256x128 .f32) (r : Vec F S128x8 .f32) (i0 i1 : Vec F S256x1 .i32) : FVec F S256x1 .f32 :=
  k0_pay8 (Scalar.remsi (Scalar.divsi (Dev.word d) 1#32) 4#32) (k0_pay2 x r) (k0_pay3 i0) (k0_pay4 i1)
    (iota .tc S256x8 32 [1] iota_S256x8_d1_w32) (k0_pay5 x r i0)

/-- The part of chunk `j` from what the device loads: the two halves `u0`, `u1` of its experts' matrices besides. -/
def partOf (d : Dev nD) (x : Vec F S256x128 .f32) (r : Vec F S128x8 .f32) (i0 i1 : Vec F S256x1 .i32) (u0 u1 : Vec F S1x128x256 .f32)
    (j : Fin 8) : FVec F S32x256 .f32 :=
  chunkPart (weight0 d x r i0 i1) (weight1 d x r i0 i1) (k0_pay9 (k0_pay1 x)) (k0_pay10 u0) (k0_pay11 u1) j

/-! ## The evidence the operations carry, for every slot -/

theorem slot_packed (q : Slot) : (slotRect q).PackedRows (EltTy.packing .bf16) :=
  .inr ⟨by decide, rfl, .inl ⟨⟨0, rfl⟩, ⟨16, rfl⟩⟩⟩
theorem slot_words (q : Slot) : (slotRect q).WholeWords (EltTy.packing .bf16) := (slot_packed q).wholeWords
theorem commSlot_words (q : Slot) : (commSlot q).view.WordExact :=
  ((Memref.isWhole_whole cc0_scratch0).wordExact_slice rfl _ (slot_words q)).reshape _ _
theorem sbufSlot_words (q : Slot) : (sbufSlot q).view.WordExact :=
  ((Memref.isWhole_whole cc0_scratch1).wordExact_slice rfl _ (slot_words q)).reshape _ _
theorem sbuf_stores (q : Slot) : (sbufM.access (slotRect q)).Stores Finset.univ :=
  View.stores_vmem h_S1x1x32x256 ((Memref.isWhole_whole cc0_scratch1).storeExact_slice rfl _ (slot_packed q)) (fun _ => rfl)

/-! ## The program -/

/-- Programs of a device. -/
abbrev Pg (F : FTy → Type) [FloatOps F] : Type 1 := Prog (TpuEff nD τ sig (Elt F) Λ₀ .tc) PUnit

/-- Chunk `j`'s part goes into the result and, packed, into its first slot. -/
def fill (j : Fin 8) (w : FVec F S32x256 .f32) (k : Pg F) : Pg F :=
  .op (.load outM (rowsRect j).toLoadRect (View.loadsAt_vmem h_S32x256)) fun _ =>
  .op (.store outM (rowsRect j) w Finset.univ (View.stores_vmem_bits_univ h_S32x256 rfl) (.inl rfl)) fun _ =>
  .op (.load sbufM (slotRect (0, j)).toLoadRect (View.loadsAt_vmem h_S1x1x32x256)) fun _ =>
  .op (.store sbufM (slotRect (0, j)) (pack w) Finset.univ (sbuf_stores (0, j)) (.inl rfl)) fun _ => k

/-- Slot `q` is sent to device `d`. -/
def sendTo (q : Slot) (d : Dev nD) (k : Pg F) : Pg F :=
  .op (.enqueueDma (sbufSlot q) (.remote (Dev.tc d) (commSlot q) (.dma (sndS q))) (.dma (rcvS q)) (sbufSlot_words q) (commSlot_words q)
    ⟨⟨rfl, Or.inl rfl⟩, trivial⟩) fun _ => k

/-- The two waits of slot `q`. -/
def await (q : Slot) (k : Pg F) : Pg F :=
  .op (.waitDma2 (sndS q) (commSlot q) (sbufSlot q) (commSlot_words q) (sbufSlot_words q)) fun _ =>
  .op (.waitDma2 (rcvS q) (sbufSlot q) (commSlot q) (sbufSlot_words q) (commSlot_words q)) fun _ => k

/-- What arrived in slot `q` is added to chunk `q.2` of the result; the sum goes on to `k`. -/
def gather (q : Slot) (k : FVec F S32x256 .f32 → Pg F) : Pg F :=
  .op (.load outM (rowsRect q.2).toLoadRect (View.loadsAt_vmem h_S32x256)) fun a =>
  .op (.load commM (slotRect q).toLoadRect (View.loadsAt_vmem h_S1x1x32x256)) fun b =>
  .op (.load outM (rowsRect q.2).toLoadRect (View.loadsAt_vmem h_S32x256)) fun _ =>
  .op (.store outM (rowsRect q.2) (plus a b) Finset.univ (View.stores_vmem_bits_univ h_S32x256 rfl) (.inl rfl)) fun _ => k (plus a b)

/-- The first exchange's chunk `j`, for `d`: part, slot, transfer. -/
def first (d : Fin 8 → Dev nD) (w : Fin 8 → FVec F S32x256 .f32) (j : Fin 8) (k : Pg F) : Pg F :=
  fill j (w j) (sendTo (0, j) (d j) k)

/-- Between the exchanges: chunk `j` of the first has arrived; the sum is sent on in the second. -/
def second (d : Fin 8 → Dev nD) (j : Fin 8) (k : Pg F) : Pg F :=
  await (0, j) <| gather (0, j) fun v =>
  .op (.load sbufM (slotRect (1, j)).toLoadRect (View.loadsAt_vmem h_S1x1x32x256)) fun _ =>
  .op (.store sbufM (slotRect (1, j)) (pack v) Finset.univ (sbuf_stores (1, j)) (.inl rfl)) fun _ => sendTo (1, j) (d j) k

/-- The last sum of chunk `j`. -/
def third (j : Fin 8) (k : Pg F) : Pg F := await (1, j) <| gather (1, j) fun _ => k

/-- A loop over a list of chunks. -/
def each (f : Fin 8 → Pg F → Pg F) (js : List (Fin 8)) (k : Pg F) : Pg F :=
  match js with
  | [] => k
  | j :: js => f j (each f js k)

/-- The devices the transfers of the two exchanges go to, as the kernel computes them from its own number. -/
def dest0 (d : Dev nD) : Fin 8 → Dev nD
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
  | 4 => ⟨k0_dev7 d, k0_dev7_lt d⟩ | 5 => ⟨k0_dev8 d, k0_dev8_lt d⟩ | 6 => ⟨k0_dev9 d, k0_dev9_lt d⟩ | 7 => ⟨k0_dev10 d, k0_dev10_lt d⟩
def dest1 (d : Dev nD) : Fin 8 → Dev nD
  | 0 => ⟨k0_dev11 d, k0_dev11_lt d⟩ | 1 => ⟨k0_dev12 d, k0_dev12_lt d⟩ | 2 => ⟨k0_dev13 d, k0_dev13_lt d⟩ | 3 => ⟨k0_dev14 d, k0_dev14_lt d⟩
  | 4 => ⟨k0_dev15 d, k0_dev15_lt d⟩ | 5 => ⟨k0_dev16 d, k0_dev16_lt d⟩ | 6 => ⟨k0_dev17 d, k0_dev17_lt d⟩ | 7 => ⟨k0_dev18 d, k0_dev18_lt d⟩

/-- Everything after the loads of the inputs: the two exchanges over the parts `w`. -/
def exchanges (d : Dev nD) (w : Fin 8 → FVec F S32x256 .f32) : Pg F :=
  fill 0 (w 0) <|
  .op (.semWait barS (2#32).toInt) fun _ =>
  sendTo (0, 0) (dest0 d 0) <|
  each (first (dest0 d) w) [1, 2, 3, 4, 5, 6, 7] <|
  each (second (dest1 d)) [0, 1, 2, 3, 4, 5, 6, 7] <|
  each third [0, 1, 2, 3, 4, 5, 6, 7] (.ret ⟨⟩)

/-- The staged inputs. -/
abbrev xM : Memref sig .tc .vmem S256x128 .f32 := Memref.whole cc0_stg0_0
abbrev rM : Memref sig .tc .vmem S128x8 .f32 := Memref.whole cc0_stg1_0
abbrev iM : Memref sig .tc .vmem S256x2 .i32 := Memref.whole cc0_stg2_0
abbrev eM : Memref sig .tc .vmem S2x128x256 .f32 := Memref.whole cc0_stg3_0

/-- The rectangles the inputs are loaded by. -/
abbrev xRect : Rect S256x128 := Rect.unit (s := S256x128) ![0, 0] S256x128.size inb_S256x128_S256x128_0_0
abbrev rRect : Rect S128x8 := Rect.unit (s := S128x8) ![0, 0] S128x8.size inb_S128x8_S128x8_0_0
abbrev iRect0 : Rect S256x2 := Rect.unit (s := S256x2) ![0, 0] S256x1.size inb_S256x2_S256x1_0_0
abbrev iRect1 : Rect S256x2 := Rect.unit (s := S256x2) ![0, 1] S256x1.size inb_S256x2_S256x1_0_1
abbrev eRect0 : Rect S2x128x256 := Rect.unit (s := S2x128x256) ![0, 0, 0] S1x128x256.size inb_S2x128x256_S1x128x256_0_0_0
abbrev eRect1 : Rect S2x128x256 := Rect.unit (s := S2x128x256) ![1, 0, 0] S1x128x256.size inb_S2x128x256_S1x128x256_1_0_0

/-- The whole body: the two signals, the loads of the inputs, the exchanges. -/
def body : Pg F :=
  .op .deviceId fun d =>
  .op (.semSignal (⟨k0_dev1 d, k0_dev1_lt d⟩, .tc) barS (1#32).toInt) fun _ =>
  .op (.semSignal (⟨k0_dev2 d, k0_dev2_lt d⟩, .tc) barS (1#32).toInt) fun _ =>
  .op (.load xM xRect.toLoadRect (View.loadsAt_vmem h_S256x128)) fun x =>
  .op (.load rM rRect.toLoadRect (View.loadsAt_vmem h_S128x8)) fun r =>
  .op (.load iM iRect0.toLoadRect (View.loadsAt_vmem h_S256x1)) fun i0 =>
  .op (.load iM iRect1.toLoadRect (View.loadsAt_vmem h_S256x1)) fun i1 =>
  .op (.load eM eRect0.toLoadRect (View.loadsAt_vmem h_S1x128x256)) fun u0 =>
  .op (.load eM eRect1.toLoadRect (View.loadsAt_vmem h_S1x128x256)) fun u1 =>
  exchanges d (partOf d x r i0 i1 u0 u1)

set_option maxRecDepth 65536 in
/-- The printed body is that program. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3 = body := rfl

end Cert.MoE

end
-- ==== Proof.Loops.lean ====
/-
The two exchanges, chunk by chunk.

Given each device's parts `w`, this says what is sent and what the result holds on the way: after the
first exchange a device's chunk is its part plus its first partner's, rounded for the way; after the
second, that plus the same of its second partner. Each phase is one step, proved for every chunk, and
repeated by one lemma on loops.
-/
module

public import proofs.«01_k».proof.Proof.Steps
public import proofs.«01_k».proof.Proof.Program

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is sent and what is summed -/

section Contents

variable (w : Dev nD → Fin 8 → FVec F S32x256 .f32)

/-- Chunk `j` of device `c` after the first exchange. -/
def acc (c : Dev nD) (j : Fin 8) : FVec F S32x256 .f32 := plus (w c j) (pack (w (mate (0, j) c) j))
/-- Chunk `j` of device `c` after the second. -/
def tot (c : Dev nD) (j : Fin 8) : FVec F S32x256 .f32 := plus (acc w c j) (pack (acc w (mate (1, j) c) j))
/-- What device `c` puts into slot `q`. -/
def sent (c : Dev nD) (q : Slot) : Vec F S1x1x32x256 .bf16 := if q.1 = 0 then pack (w c q.2) else pack (acc w c q.2)

/-- The stage of each slot once `a` of the first exchange's slots are sent, `b` of them have arrived, their sums sent in
    the second exchange, and `d` of those have arrived. -/
def stage (a b d : ℕ) (q : Slot) : Stage :=
  if q.1 = 0 then (if q.2.val < b then .done else if q.2.val < a then .flight else .raw)
  else (if q.2.val < d then .done else if q.2.val < b then .flight else .raw)

/-- The result's chunks then, `v` being what it held before. -/
def vals (v : Fin 8 → Vec F S32x256 .f32) (c : Dev nD) (a b d : ℕ) (j : Fin 8) : Vec F S32x256 .f32 :=
  if j.val < d then tot w c j else if j.val < b then acc w c j else if j.val < a then w c j else v j

end Contents

theorem stage_first (j : Fin 8) :
    Function.update (Function.update (stage j 0 0) (0, j) .full) (0, j) .flight = stage (j.val + 1) 0 0 := by
  rw [Function.update_idem]
  funext ⟨s, i⟩
  by_cases h : ((s, i) : Slot) = (0, j)
  · obtain ⟨rfl, rfl⟩ := Prod.mk.inj h
    rw [Function.update_self]; simp [stage]
  · rw [Function.update_of_ne h]
    unfold stage
    dsimp only
    by_cases hs : s = 0
    · have : i.val ≠ j.val := fun hi => h (by rw [hs, Fin.ext hi])
      simp only [hs, if_true]
      split_ifs <;> first | rfl | omega
    · simp only [hs, if_false]

theorem stage_second (j : Fin 8) :
    Function.update (Function.update (Function.update (stage 8 j 0) (0, j) .done) (1, j) .full) (1, j) .flight = stage 8 (j.val + 1) 0 := by
  rw [Function.update_idem]
  funext ⟨s, i⟩
  have hj := i.isLt
  by_cases h1 : ((s, i) : Slot) = (1, j)
  · obtain ⟨rfl, rfl⟩ := Prod.mk.inj h1
    rw [Function.update_self]; simp [stage]
  rw [Function.update_of_ne h1]
  by_cases h0 : ((s, i) : Slot) = (0, j)
  · obtain ⟨rfl, rfl⟩ := Prod.mk.inj h0
    rw [Function.update_self]; simp [stage]
  rw [Function.update_of_ne h0]
  have hi : i.val ≠ j.val := fun hi => by
    have hi := Fin.ext hi; subst hi
    match s with
    | ⟨0, _⟩ => exact h0 rfl
    | ⟨1, _⟩ => exact h1 rfl
  unfold stage
  dsimp only
  split_ifs <;> first | rfl | omega

theorem stage_third (j : Fin 8) : Function.update (stage 8 8 j) (1, j) .done = stage 8 8 (j.val + 1) := by
  funext ⟨s, i⟩
  by_cases h : ((s, i) : Slot) = (1, j)
  · obtain ⟨rfl, rfl⟩ := Prod.mk.inj h
    rw [Function.update_self]; simp [stage]
  · rw [Function.update_of_ne h]
    unfold stage
    dsimp only
    by_cases hs : s = 0
    · simp only [hs, if_true]
    · have : i.val ≠ j.val := fun hi => h (by rw [Fin.ext hi]; match s with | ⟨0, _⟩ => exact absurd rfl hs | ⟨1, _⟩ => rfl)
      simp only [hs, if_false]
      split_ifs <;> first | rfl | omega

section Vals

variable (w : Dev nD → Fin 8 → FVec F S32x256 .f32) (v : Fin 8 → Vec F S32x256 .f32) (c : Dev nD) (j : Fin 8)

theorem vals_first : Function.update (vals w v c j 0 0) j (w c j) = vals w v c (j.val + 1) 0 0 := by
  funext i
  by_cases h : i = j
  · subst h; rw [Function.update_self]; simp [vals]
  · rw [Function.update_of_ne h]
    have : i.val ≠ j.val := fun hi => h (Fin.ext hi)
    unfold vals; split_ifs <;> first | rfl | omega
theorem vals_second : Function.update (vals w v c 8 j 0) j (acc w c j) = vals w v c 8 (j.val + 1) 0 := by
  funext i
  by_cases h : i = j
  · subst h; rw [Function.update_self]; simp [vals]
  · rw [Function.update_of_ne h]
    have : i.val ≠ j.val := fun hi => h (Fin.ext hi)
    unfold vals; split_ifs <;> first | rfl | omega
theorem vals_third : Function.update (vals w v c 8 8 j) j (tot w c j) = vals w v c 8 8 (j.val + 1) := by
  funext i
  by_cases h : i = j
  · subst h; rw [Function.update_self]; simp [vals]
  · rw [Function.update_of_ne h]
    have : i.val ≠ j.val := fun hi => h (Fin.ext hi)
    unfold vals; split_ifs <;> first | rfl | omega
theorem vals_at_second : vals w v c 8 j 0 j = w c j := by simp [vals]
theorem vals_at_third : vals w v c 8 8 j j = acc w c j := by simp [vals]
theorem vals_end : vals w v c 8 8 8 = tot w c := by funext i; simp [vals]

end Vals

/-! ## The steps -/

variable (w : Dev nD → Fin 8 → FVec F S32x256 .f32) (K : Dev nD × CK → ℕ) {c : Dev nD}
variable {σ : Slot → Stage} {n : ℕ} {v : Fin 8 → Vec F S32x256 .f32}

/-- Filling chunk `j`. -/
theorem wp_fill {Φ : PUnit.{1} → sProp 𝕄} (j : Fin 8) (hσ : σ (0, j) = .raw) {k : Pg F} :
    St (sent w) c σ n v ⊢ iprop((St (sent w) c (Function.update σ (0, j) .full) n (Function.update v j (w c j)) -∗ wpc c k Φ)
      -∗ wpc c (fill j (w c j) k) Φ) := by
  unfold fill
  iintro H Hk
  iapply (wp_load_out (sent w) j) $$ H; iintro H
  iapply (wp_store_out (sent w) j (w c j)) $$ H; iintro H
  iapply (wp_load_sbuf (sent w) (0, j) hσ) $$ H; iintro %u H
  iapply (wp_store_sbuf (sent w) (0, j) hσ (pack (w c j)) (by unfold sent; rw [if_pos rfl])) $$ H; iintro H
  iapply Hk; iexact H

/-- Sending slot `q`, by whatever name the kernel has for its partner. -/
theorem wp_sendTo {Φ : PUnit.{1} → sProp 𝕄} (q : Slot) (hσ : σ q = .full) (hn : n = lin q) (d : Dev nD) (hd : d = mate q c) {k : Pg F} :
    iprop(records (sent w) K ∗ St (sent w) c σ n v ∗ lands (F := F) c n)
      ⊢ iprop(((St (sent w) c (Function.update σ q .flight) (n + 1) v ∗ lands (F := F) c (n + 1)) -∗ wpc c k Φ)
        -∗ wpc c (sendTo q d k) Φ) := by
  subst hn
  unfold sendTo
  exact wp_send (sent w) K (k := fun _ => k) q hσ d hd

/-- Waiting for slot `q` and adding what arrived. -/
theorem wp_arrive {Φ : PUnit.{1} → sProp 𝕄} (q : Slot) (hσ : σ q = .flight) (hn : lin q < n) {k : FVec F S32x256 .f32 → Pg F} :
    iprop(records (sent w) K ∗ St (sent w) c σ n v)
      ⊢ iprop((St (sent w) c (Function.update σ q .done) n (Function.update v q.2 (plus (v q.2) (landed (sent w) c q)))
          -∗ wpc c (k (plus (v q.2) (landed (sent w) c q))) Φ)
        -∗ wpc c (await q (gather q k)) Φ) := by
  unfold await gather
  iintro ⟨#HR, H⟩ Hk
  iapply (wp_waits (sent w) K q hσ hn) $$ [H]
  · isplitr; · iexact HR
    iexact H
  iintro H
  iapply (wp_load_out (sent w) q.2) $$ H; iintro H
  iapply (wp_load_comm (sent w) q (Function.update_self _ _ _)) $$ H; iintro H
  iapply (wp_load_out (sent w) q.2) $$ H; iintro H
  iapply (wp_store_out (sent w) q.2 (plus (v q.2) (landed (sent w) c q))) $$ H; iintro H
  iapply Hk; iexact H

/-- A running device at the count `a b d` of what is sent and arrived. -/
def At (v : Fin 8 → Vec F S32x256 .f32) (c : Dev nD) (a b d : ℕ) : sProp 𝕄 :=
  iprop(St (sent w) c (stage a b d) (a + b) (vals w v c a b d) ∗ lands (F := F) c (a + b))

theorem wp_first {Φ : PUnit.{1} → sProp 𝕄} (d : Fin 8 → Dev nD) (hd : ∀ j, d j = mate (0, j) c) (j : Fin 8) {k : Pg F} :
    iprop(records (sent w) K ∗ At w v c j 0 0) ⊢ iprop((At w v c (j.val + 1) 0 0 -∗ wpc c k Φ) -∗ wpc c (first d (w c) j k) Φ) := by
  unfold first At
  iintro ⟨#HR, H, HL⟩ Hk
  iapply (wp_fill w j (by simp [stage])) $$ H; iintro H
  rw [vals_first]
  iapply (wp_sendTo w K (n := j.val + 0) (0, j) (Function.update_self _ _ _) (by simp [lin]) (d j) (hd j)) $$ [H HL]
  · isplitr; · iexact HR
    isplitl [H]; · iexact H
    iexact HL
  rw [stage_first, show j.val + 0 + 1 = j.val + 1 + 0 from rfl]
  iintro H
  iapply Hk; iexact H

theorem wp_second {Φ : PUnit.{1} → sProp 𝕄} (d : Fin 8 → Dev nD) (hd : ∀ j, d j = mate (1, j) c) (j : Fin 8) {k : Pg F} :
    iprop(records (sent w) K ∗ At w v c 8 j 0) ⊢ iprop((At w v c 8 (j.val + 1) 0 -∗ wpc c k Φ) -∗ wpc c (second d j k) Φ) := by
  have hland : plus (vals w v c 8 j 0 j) (landed (sent w) c (0, j)) = acc w c j := by
    rw [vals_at_second]; unfold landed sent acc; rw [if_pos rfl]
  have raw_second : Function.update (stage 8 j 0) (0, j) Stage.done (1, j) = .raw := by
    rw [Function.update_of_ne (by simp)]; simp [stage]
  unfold second At
  iintro ⟨#HR, H, HL⟩ Hk
  iapply (wp_arrive w K (σ := stage 8 j 0) (n := 8 + j.val) (0, j) (by simp [stage]) (by unfold lin; dsimp only [Fin.val_zero, Fin.val_one]; omega)) $$ [H]
  · isplitr; · iexact HR
    iexact H
  dsimp only
  rw [hland, vals_second]
  iintro H
  iapply (wp_load_sbuf (sent w) (1, j) raw_second) $$ H; iintro %u H
  iapply (wp_store_sbuf (sent w) (1, j) raw_second (pack (acc w c j))
    (by unfold sent; rw [if_neg (by simp)])) $$ H; iintro H
  iapply (wp_sendTo w K (n := 8 + j.val) (1, j) (Function.update_self _ _ _) (by simp [lin]) (d j) (hd j)) $$ [H HL]
  · isplitr; · iexact HR
    isplitl [H]; · iexact H
    iexact HL
  rw [stage_second, show 8 + j.val + 1 = 8 + (j.val + 1) from rfl]
  iintro H
  iapply Hk; iexact H

theorem wp_third {Φ : PUnit.{1} → sProp 𝕄} (j : Fin 8) {k : Pg F} :
    iprop(records (sent w) K ∗ At w v c 8 8 j) ⊢ iprop((At w v c 8 8 (j.val + 1) -∗ wpc c k Φ) -∗ wpc c (third j k) Φ) := by
  have hland : plus (vals w v c 8 8 j j) (landed (sent w) c (1, j)) = tot w c j := by
    rw [vals_at_third]; unfold landed sent tot; rw [if_neg (by simp)]
  unfold third At
  iintro ⟨#HR, H, HL⟩ Hk
  iapply (wp_arrive w K (σ := stage 8 8 j) (n := 8 + 8) (1, j) (by simp [stage]) (by unfold lin; dsimp only [Fin.val_zero, Fin.val_one]; omega)) $$ [H]
  · isplitr; · iexact HR
    iexact H
  dsimp only
  rw [hland, vals_third, stage_third]
  iintro H
  iapply Hk
  isplitl [H]; · iexact H
  iexact HL

/-! ## The loops -/

/-- A loop whose step takes `S j` to `S (j + 1)` takes `S a` to the `S` after its last chunk. -/
theorem wp_each {Φ : PUnit.{1} → sProp 𝕄} (R : sProp 𝕄) [BI.Persistent R] (S : ℕ → sProp 𝕄) (f : Fin 8 → Pg F → Pg F)
    (hf : ∀ (j : Fin 8) (k : Pg F), iprop(R ∗ S j) ⊢ iprop((S (j.val + 1) -∗ wpc c k Φ) -∗ wpc c (f j k) Φ)) {k : Pg F} :
    ∀ (js : List (Fin 8)) (a : ℕ), js.map (fun j => j.val) = List.range' a js.length →
      iprop(R ∗ S a) ⊢ iprop((S (a + js.length) -∗ wpc c k Φ) -∗ wpc c (each f js k) Φ)
  | [], a, _ => by
    unfold each
    iintro ⟨-, H⟩ Hk
    iapply Hk; iexact H
  | j :: js, a, h => by
    simp only [List.map_cons, List.length_cons, List.range'_succ, List.cons.injEq] at h
    obtain ⟨rfl, h⟩ := h
    unfold each
    iintro ⟨#HR, H⟩ Hk
    iapply (hf j (each f js k)) $$ [H]
    · isplitr; · iexact HR
      iexact H
    iintro H
    iapply (wp_each R S f hf js (j.val + 1) h) $$ [H]
    · isplitr; · iexact HR
      iexact H
    rw [show j.val + 1 + js.length = j.val + (j :: js).length from by rw [List.length_cons]; omega]
    iintro H
    iapply Hk; iexact H

/-- The device numbers the kernel computes are its partners. -/
theorem dest0_eq (c : Dev nD) : ∀ j, dest0 c j = mate (0, j) c := by revert c; decide +kernel
theorem dest1_eq (c : Dev nD) : ∀ j, dest1 c j = mate (1, j) c := by revert c; decide +kernel

/-- The loops after the first transfer: from one slot sent to every chunk of the result summed. -/
theorem wp_loops {Φ : PUnit.{1} → sProp 𝕄} {k : Pg F} :
    iprop(records (sent w) K ∗ At w v c 1 0 0) ⊢ iprop((At w v c 8 8 8 -∗ wpc c k Φ)
      -∗ wpc c (each (first (dest0 c) (w c)) [1, 2, 3, 4, 5, 6, 7] <| each (second (dest1 c)) [0, 1, 2, 3, 4, 5, 6, 7] <|
          each third [0, 1, 2, 3, 4, 5, 6, 7] k) Φ) := by
  iintro ⟨#HR, H⟩ Hk
  iapply (wp_each (records (sent w) K) (fun a => At w v c a 0 0) (first (dest0 c) (w c)) (fun j k => wp_first w K (dest0 c) (dest0_eq c) j)
    [1, 2, 3, 4, 5, 6, 7] 1 rfl) $$ [H]
  · isplitr; · iexact HR
    iexact H
  iintro H
  iapply (wp_each (records (sent w) K) (fun b => At w v c 8 b 0) (second (dest1 c)) (fun j k => wp_second w K (dest1 c) (dest1_eq c) j)
    [0, 1, 2, 3, 4, 5, 6, 7] 0 rfl) $$ [H]
  · isplitr; · iexact HR
    iexact H
  iintro H
  iapply (wp_each (records (sent w) K) (fun d => At w v c 8 8 d) third (fun j k => wp_third w K j) [0, 1, 2, 3, 4, 5, 6, 7] 0 rfl) $$ [H]
  · isplitr; · iexact HR
    iexact H
  iintro H
  iapply Hk; iexact H

end Cert.MoE

end
-- ==== Proof.Body.lean ====
/-
The body of the kernel, from entry to exit.

On entry a device cuts its two scratch buffers into slots and, with its two signals, hands each partner
the landing slots that partner will send into; it loads its inputs, goes through the two exchanges, and
at the end every transfer has been waited for, every semaphore of the protocol is back at zero and the
buffers are whole again. The result buffer then holds the sum over the four devices.
-/
module

public import proofs.«01_k».proof.Proof.Loops
public import Idealize.ShloMosaic.Lib.Ring

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers and slots -/

/-- A device's two scratch buffers, whole. -/
def commWhole (c : Dev nD) (f : Buf (Elt F) ((c : Thread nD τ).loc cc0_scratch0)) : sProp 𝕄 :=
  ((c : Thread nD τ).loc cc0_scratch0) ↦{fullShare} f
def sbufWhole (c : Dev nD) (f : Buf (Elt F) ((c : Thread nD τ).loc cc0_scratch1)) : sProp 𝕄 :=
  ((c : Thread nD τ).loc cc0_scratch1) ↦{fullShare} f

section Cut

variable (c : Dev nD)

theorem comm_cover : (Finset.univ.biUnion fun q : Slot => (slotSet q : Finset (Idx ((c : Thread nD τ).loc cc0_scratch0)))) = Finset.univ :=
  Finset.eq_univ_of_forall fun i => Finset.mem_biUnion.mpr ⟨slotOf i, Finset.mem_univ _, mem_slotSet.mpr rfl⟩
theorem sbuf_cover : (Finset.univ.biUnion fun q : Slot => (slotSet q : Finset (Idx ((c : Thread nD τ).loc cc0_scratch1)))) = Finset.univ :=
  Finset.eq_univ_of_forall fun i => Finset.mem_biUnion.mpr ⟨slotOf i, Finset.mem_univ _, mem_slotSet.mpr rfl⟩

/-- Held whole, or slot by slot; -/
theorem comm_slots (f : Buf (Elt F) ((c : Thread nD τ).loc cc0_scratch0)) :
    (commWhole (F := F) c f) = bigSep Finset.univ fun q => commPts c q f := by
  unfold commWhole commPts
  exact Ring.pointsTo_blocks (ℓ := (c : Thread nD τ).loc cc0_scratch0) (B := Slot) (fun q => slotSet q) slotSet_disjoint comm_cover f
theorem sbuf_slots (f : Buf (Elt F) ((c : Thread nD τ).loc cc0_scratch1)) :
    (sbufWhole (F := F) c f) = bigSep Finset.univ fun q => sbufPts c q f := by
  unfold sbufWhole sbufPts
  exact Ring.pointsTo_blocks (ℓ := (c : Thread nD τ).loc cc0_scratch1) (B := Slot) (fun q => slotSet q) slotSet_disjoint sbuf_cover f
/-- the slots, at whatever contents, make the whole. -/
theorem comm_join (f₀ : Buf (Elt F) ((c : Thread nD τ).loc cc0_scratch0)) :
    (bigSep Finset.univ fun q => iprop(∃ f, commPts (F := F) c q f)) ⊢ iprop(∃ f, commWhole (F := F) c f) := by
  unfold commWhole commPts
  exact Ring.pointsTo_blocks_join_exists (ℓ := (c : Thread nD τ).loc cc0_scratch0) (B := Slot) (fun q => slotSet q) slotSet_disjoint comm_cover f₀
theorem sbuf_join (f₀ : Buf (Elt F) ((c : Thread nD τ).loc cc0_scratch1)) :
    (bigSep Finset.univ fun q => iprop(∃ f, sbufPts (F := F) c q f)) ⊢ iprop(∃ f, sbufWhole (F := F) c f) := by
  unfold sbufWhole sbufPts
  exact Ring.pointsTo_blocks_join_exists (ℓ := (c : Thread nD τ).loc cc0_scratch1) (B := Slot) (fun q => slotSet q) slotSet_disjoint sbuf_cover f₀

end Cut

/-- A landing buffer, cut, is what its owner hands its two partners at the barrier. -/
theorem hand_over (c : Dev nD) (f) : commWhole (F := F) c f ⊢ iprop(barPay (F := F) (pr false c) false ∗ barPay (F := F) (pr true c) true) := by
  have h (b : Bool) : (bigSep (Finset.univ.filter fun q : Slot => par q = b) fun q => commPts (F := F) c q f) ⊢ barPay (F := F) (pr b c) b := by
    unfold barPay
    refine bigSep_mono fun q hq => ?_
    unfold land
    show (_ : sProp 𝕄) ⊢ _
    rw [show mate q (pr b c) = c by rw [← (Finset.mem_filter.mp hq).2]; exact pr_pr _ _]
    iintro H; iexists f; iexact H
  rw [comm_slots, bigSep_filter_split Finset.univ (fun q : Slot => par q = false)]
  refine BI.sep_mono (h false) ?_
  rw [show (Finset.univ.filter fun q : Slot => ¬ par q = false) = Finset.univ.filter fun q : Slot => par q = true from
    Finset.filter_congr fun q _ => by simp]
  exact h true

/-! ## What a device starts from and ends with -/

/-- What slot `q` of device `c` comes with: the tokens for its transfer, its positions at its two cells. -/
def tickets (c : Dev nD) (q : Slot) : sProp 𝕄 :=
  iprop(dutyTok ER (sndCell c q) 0 false ∗ dutyTok ER (rcvCell (mate q c) q) 0 false
    ∗ atPos ER (sndCell c q) 0 ∅ 0 ∗ atPos ER (rcvCell c q) 0 ∅ 0)
/-- A device's own ghost state: its position at its barrier, the tokens of its two signals, its slots' tickets. -/
def held (c : Dev nD) : sProp 𝕄 :=
  iprop(atPos ER (barCell c) 0 ∅ 0 ∗ (dutyTok ER (barCell (pr false c)) 0 false ∗ dutyTok ER (barCell (pr true c)) 0 true)
    ∗ bigSep Finset.univ (tickets (F := F) c))
/-- The credits a device starts with: its barrier's two units, an arrival in each slot. -/
def credits (c : Dev nD) : sProp 𝕄 :=
  iprop(cred (tallyAt (barCell c) () 2) ∗ bigSep Finset.univ fun q => cred (tallyAt (rcvCell c q) () N))
/-- All the protocol's counters of a device at zero. -/
def closed (c : Dev nD) : sProp 𝕄 :=
  iprop(semVal (barCell c) 0 ∗ bigSep Finset.univ fun q : Slot => iprop(semVal (sndCell c q) 0 ∗ semVal (rcvCell c q) 0))

/-- Tickets and credits make the slots' kits. -/
theorem kits (c : Dev nD) :
    iprop(bigSep Finset.univ (tickets (F := F) c) ∗ bigSep Finset.univ fun q => cred (tallyAt (rcvCell c q) () N))
      ⊢ bigSep Finset.univ (kit (F := F) c) := by
  rw [← bigSep_sep']
  refine bigSep_mono fun q _ => ?_
  unfold tickets kit
  show (_ : sProp 𝕄) ⊢ _
  iintro ⟨⟨H1, H2, H3, H4⟩, H5⟩
  isplitl [H1]; · iexact H1
  isplitl [H2]; · iexact H2
  isplitl [H5]; · iexact H5
  isplitl [H3]; · iexact H3
  iexact H4

/-- Something persistent may be used once for each member. -/
theorem each_with {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

section Closing

variable (sent : Dev nD → Slot → Vec F S1x1x32x256 .bf16) (K : Dev nD × CK → ℕ)

/-- A slot that is done gives its two buffers' slots back and its two counters, at zero. -/
theorem close_slot (c : Dev nD) (q : Slot) :
    iprop(records sent K ∗ slotRes sent c q .done)
      ⊢ |={Set.univ}=> iprop((semVal (sndCell c q) 0 ∗ semVal (rcvCell c q) 0) ∗ (∃ f, commPts (F := F) c q f) ∗ (∃ f, sbufPts (F := F) c q f)) := by
  unfold slotRes
  iintro ⟨#HR, Hs, Hr, Ha, Hb⟩
  unfold sndPay rcvPay
  imod (Rounds.cell_close ER (Rd sent) (κ := K (c, some (false, q))) (g := sndCell c q) (Set.mem_univ _) (fun h => h) (R := 0 + 1) (duties_later sent _)) $$ [Ha] with Hz
  · isplitr; · iapply (inv_at sent K (c, some (false, q))); iexact HR
    iexact Ha
  imod (Rounds.cell_close ER (Rd sent) (κ := K (c, some (true, q))) (g := rcvCell c q) (Set.mem_univ _) (fun h => h) (R := 0 + 1) (duties_later sent _)) $$ [Hb] with Hz'
  · isplitr; · iapply (inv_at sent K (c, some (true, q))); iexact HR
    iexact Hb
  imodintro
  isplitl [Hz Hz']
  · isplitl [Hz] <;> iassumption
  isplitl [Hr]
  · iexists _; iexact Hr
  · iexists _; iexact Hs

/-- All slots done: the scratch buffers whole, the slots' counters at zero. -/
theorem close_slots (c : Dev nD) (σ : Slot → Stage) (hσ : ∀ q, σ q = .done) :
    iprop(records sent K ∗ bigSep Finset.univ fun q => slotRes sent c q (σ q))
      ⊢ |={Set.univ}=> iprop((bigSep Finset.univ fun q : Slot => iprop(semVal (sndCell c q) 0 ∗ semVal (rcvCell c q) 0))
          ∗ (∃ f, commWhole (F := F) c f) ∗ (∃ f, sbufWhole (F := F) c f)) := by
  refine ((each_with fun q _ => by rw [hσ q]; exact close_slot sent K c q).trans (bigSep_fupd _ _)).trans (BI.fupd_mono ?_)
  rw [bigSep_sep', bigSep_sep' Finset.univ (fun q : Slot => iprop(∃ f, commPts (F := F) c q f)) (fun q => iprop(∃ f, sbufPts (F := F) c q f))]
  exact sep_mono_right (BI.sep_mono (comm_join c (glue4 (landed sent c))) (sbuf_join c (glue4 (sent c))))

/-- A source buffer, cut, and the kits are the slots before they are written. -/
theorem raw_slots (c : Dev nD) (g) :
    iprop((bigSep Finset.univ fun q => sbufPts (F := F) c q g) ∗ bigSep Finset.univ (kit (F := F) c))
      ⊢ bigSep Finset.univ fun q => slotRes sent c q .raw := by
  rw [← bigSep_sep']
  refine bigSep_mono fun q _ => ?_
  unfold slotRes
  show (_ : sProp 𝕄) ⊢ _
  iintro ⟨H1, H2⟩
  isplitl [H1]; · iexists g; iexact H1
  iexact H2

end Closing

/-! ## The body -/

theorem signal0 (c : Dev nD) : (⟨k0_dev1 c, k0_dev1_lt c⟩ : Dev nD) = pr false c := by revert c; decide +kernel
theorem signal1 (c : Dev nD) : (⟨k0_dev2 c, k0_dev2_lt c⟩ : Dev nD) = pr true c := by revert c; decide +kernel

/-- What device `c`'s part is, from the contents of its staged inputs. -/
def partAt (c : Dev nD) (X : (cc0_stg0_0 : Ref sig .tc).ty.Contents (Elt F)) (R : (cc0_stg1_0 : Ref sig .tc).ty.Contents (Elt F))
    (I : (cc0_stg2_0 : Ref sig .tc).ty.Contents (Elt F)) (E : (cc0_stg3_0 : Ref sig .tc).ty.Contents (Elt F)) : Fin 8 → FVec F S32x256 .f32 :=
  partOf c (xM.view.readAt (Elt F) xRect.toLoadRect X) (rM.view.readAt (Elt F) rRect.toLoadRect R)
    (iM.view.readAt (Elt F) iRect0.toLoadRect I) (iM.view.readAt (Elt F) iRect1.toLoadRect I)
    (eM.view.readAt (Elt F) eRect0.toLoadRect E) (eM.view.readAt (Elt F) eRect1.toLoadRect E)

/-- The staged inputs, held. -/
def inputs (c : Dev nD) (X : (cc0_stg0_0 : Ref sig .tc).ty.Contents (Elt F)) (R : (cc0_stg1_0 : Ref sig .tc).ty.Contents (Elt F))
    (I : (cc0_stg2_0 : Ref sig .tc).ty.Contents (Elt F)) (E : (cc0_stg3_0 : Ref sig .tc).ty.Contents (Elt F)) : sProp 𝕄 :=
  iprop((((c : Thread nD τ).loc cc0_stg0_0) ↦{fullShare} X) ∗ (((c : Thread nD τ).loc cc0_stg1_0) ↦{fullShare} R)
    ∗ (((c : Thread nD τ).loc cc0_stg2_0) ↦{fullShare} I) ∗ (((c : Thread nD τ).loc cc0_stg3_0) ↦{fullShare} E))

variable (K : Dev nD × CK → ℕ) (w : Dev nD → Fin 8 → FVec F S32x256 .f32)

/-- The exchanges, from the barrier's wait to the end. -/
theorem wp_exchanges {Φ : PUnit.{1} → sProp 𝕄} (c : Dev nD) (v : Fin 8 → Vec F S32x256 .f32) :
    iprop(records (sent w) K ∗ St (sent w) c (fun _ => .raw) 0 v ∗ atPos ER (barCell c) 0 ∅ 0 ∗ cred (tallyAt (barCell c) () 2))
      ⊢ iprop(((closed (F := F) c ∗ (∃ f, commWhole (F := F) c f) ∗ (∃ f, sbufWhole (F := F) c f)
            ∗ (∃ W, owes (c : Thread nD τ) 0 W) ∗ outPts c (glue2 (tot w c))) -∗ Φ ⟨⟩)
        -∗ wpc c (exchanges c (w c)) Φ) := by
  unfold exchanges
  iintro ⟨#HR, H, Ha, Hc⟩ Hk
  iapply (wp_fill w (σ := fun _ => .raw) 0 rfl) $$ H; iintro H
  unfold St
  icases H with ⟨Hs, ⟨%W, HO⟩, Hv⟩
  iapply (Rounds.wp_wait_rest_token 𝒱₀ ER (Rd (sent w)) (c : Thread nD τ) none (κ := K (c, none)) (wpE_semWait_eq 𝒱₀ (c : Thread nD τ) none Set.univ)
    (Set.mem_univ _) () (O := owe c 0) (W := W) (R := 0) (m := 0) (T := ∅) (by rw [expect_bar]; decide)) $$ [Hc HO Ha]
  · isplitr; · iapply (inv_at (sent w) K (c, none)); iexact HR
    isplitl [Hc]; · iexact Hc
    isplitl [HO]; · iexact HO
    isplitr
    · iapply (mayWait_owe c (.reg barS) 0 (by rw [lv_bar]; decide)); iapply (lev_at (sent w) K); iexact HR
    iexact Ha
  iintro ⟨HO, Ha, -, HL⟩
  ihave HL := (Entails.of_eq (rest_bar (sent w) c)) $$ HL
  iapply (wp_sendTo w K (σ := Function.update (fun _ => .raw) (0, 0) .full) (n := 0) (v := Function.update v 0 (w c 0)) (0, 0) (Function.update_self _ _ _) rfl (dest0 c 0) (dest0_eq c 0)) $$ [Hs HO Hv HL]
  · isplitr; · iexact HR
    isplitl [Hs HO Hv]
    · unfold St
      isplitl [Hs]; · iexact Hs
      isplitl [HO]; · iexists _; iexact HO
      iexact Hv
    · unfold lands; rw [ahead_zero]; iexact HL
  iintro ⟨H, HL⟩
  iapply (wp_loops w K (v := v) (c := c)) $$ [H HL]
  · isplitr; · iexact HR
    unfold At
    rw [show stage 1 0 0 = Function.update (Function.update (fun _ => Stage.raw) ((0, 0) : Slot) .full) (0, 0) .flight by
        have h := stage_first 0; rw [show stage ((0 : Fin 8) : ℕ) 0 0 = fun _ => Stage.raw by funext q; simp [stage]] at h; exact h.symm,
      show vals w v c 1 0 0 = Function.update v 0 (w c 0) by
        have h := vals_first w (v := v) (c := c) 0; rw [show vals w v c ((0 : Fin 8) : ℕ) 0 0 = v by funext j; simp [vals]] at h; exact h.symm]
    isplitl [H]; · iexact H
    iexact HL
  iintro H
  unfold At St
  icases H with ⟨⟨Hs, ⟨%W', HO⟩, Hv⟩, -⟩
  rw [vals_end, show owe c (8 + 8) = 0 from owe_end c]
  simp only [wp_ret]
  imod (close_slots (sent w) K c (stage 8 8 8) (fun q => by simp [stage])) $$ [Hs] with ⟨Hz, Hm, Hb⟩
  · isplitr; · iexact HR
    iexact Hs
  imod (Rounds.cell_close ER (Rd (sent w)) (κ := K (c, none)) (g := barCell c) (Set.mem_univ _) (fun h => h) (R := 0 + 1) (duties_later (sent w) _)) $$ [Ha] with Hz'
  · isplitr; · iapply (inv_at (sent w) K (c, none)); iexact HR
    iexact Ha
  imodintro
  iapply Hk
  unfold closed
  isplitl [Hz Hz']
  · isplitl [Hz']; · iexact Hz'
    iexact Hz
  isplitl [Hm]; · iexact Hm
  isplitl [Hb]; · iexact Hb
  isplitl [HO]; · iexists _; iexact HO
  iexact Hv

/-- The whole body. -/
theorem wp_body {Φ : PUnit.{1} → sProp 𝕄} (c : Dev nD) (X R I E) (hw : w c = partAt c X R I E) (f g o W) :
    iprop((records (sent w) K ∗ held (F := F) c ∗ credits (F := F) c) ∗ commWhole (F := F) c f ∗ sbufWhole (F := F) c g
        ∗ owes (c : Thread nD τ) (O₀ c) W ∗ inputs c X R I E ∗ outPts (F := F) c o)
      ⊢ iprop(((closed (F := F) c ∗ (∃ f, commWhole (F := F) c f) ∗ (∃ f, sbufWhole (F := F) c f)
            ∗ (∃ W, owes (c : Thread nD τ) 0 W) ∗ inputs c X R I E ∗ outPts c (glue2 (tot w c))) -∗ Φ ⟨⟩)
        -∗ wpc c body Φ) := by
  unfold body held credits inputs
  simp only [wp_deviceId]
  iintro ⟨⟨#HR, ⟨Ha, ⟨Ht0, Ht1⟩, Htk⟩, Hcb, Hcr⟩, Hf, Hg, HO, ⟨HX, HRr, HI, HE⟩, Ho⟩ Hk
  rw [signal0, signal1]
  ihave Hp := (hand_over c f) $$ Hf
  icases Hp with ⟨Hp0, Hp1⟩
  iapply (Rounds.wp_signal 𝒱₀ ER (Rd (sent w)) (c : Thread nD τ) none (dst := (pr false c : Thread nD τ)) (κ := K (pr false c, none))
      (d := false) (by rw [duties_bar]; exact Finset.mem_univ _) ((amount_bar (sent w) (pr false c) false).trans (by decide)) () (O₁ c) rfl)
    $$ [HO Ht0 Hp0]
  · isplitr; · iapply (inv_at (sent w) K (pr false c, none)); iexact HR
    isplitl [HO]; · iexact HO
    isplitl [Ht0]; · iexact Ht0
    isplitl [Hp0]; · rw [payload_bar]; iexact Hp0
    iapply (reached_at (sent w) K (pr false c, none)); iexact HR
  iintro HO
  iapply (Rounds.wp_signal 𝒱₀ ER (Rd (sent w)) (c : Thread nD τ) none (dst := (pr true c : Thread nD τ)) (κ := K (pr true c, none))
      (d := true) (by rw [duties_bar]; exact Finset.mem_univ _) ((amount_bar (sent w) (pr true c) true).trans (by decide)) () (owe c 0) rfl)
    $$ [HO Ht1 Hp1]
  · isplitr; · iapply (inv_at (sent w) K (pr true c, none)); iexact HR
    isplitl [HO]; · iexact HO
    isplitl [Ht1]; · iexact Ht1
    isplitl [Hp1]; · rw [payload_bar]; iexact Hp1
    iapply (reached_at (sent w) K (pr true c, none)); iexact HR
  iintro HO
  iapply (wp_load 𝒱₀ (c : Thread nD τ) none Set.univ (m := xM) (r := xRect.toLoadRect) (Finset.subset_univ _)) $$ HX; iintro HX
  iapply (wp_load 𝒱₀ (c : Thread nD τ) none Set.univ (m := rM) (r := rRect.toLoadRect) (Finset.subset_univ _)) $$ HRr; iintro HRr
  iapply (wp_load 𝒱₀ (c : Thread nD τ) none Set.univ (m := iM) (r := iRect0.toLoadRect) (Finset.subset_univ _)) $$ HI; iintro HI
  iapply (wp_load 𝒱₀ (c : Thread nD τ) none Set.univ (m := iM) (r := iRect1.toLoadRect) (Finset.subset_univ _)) $$ HI; iintro HI
  iapply (wp_load 𝒱₀ (c : Thread nD τ) none Set.univ (m := eM) (r := eRect0.toLoadRect) (Finset.subset_univ _)) $$ HE; iintro HE
  iapply (wp_load 𝒱₀ (c : Thread nD τ) none Set.univ (m := eM) (r := eRect1.toLoadRect) (Finset.subset_univ _)) $$ HE; iintro HE
  rw [show partOf c (xM.view.readAt (Elt F) xRect.toLoadRect X) (rM.view.readAt (Elt F) rRect.toLoadRect R)
    (iM.view.readAt (Elt F) iRect0.toLoadRect I) (iM.view.readAt (Elt F) iRect1.toLoadRect I)
    (eM.view.readAt (Elt F) eRect0.toLoadRect E) (eM.view.readAt (Elt F) eRect1.toLoadRect E) = w c from hw.symm]
  ihave Hkit := (kits (F := F) c) $$ [Htk Hcr]
  · isplitl [Htk]; · iexact Htk
    iexact Hcr
  ihave Hg := (Entails.of_eq (sbuf_slots c g)) $$ Hg
  ihave Hraw := (raw_slots (sent w) c g) $$ [Hg Hkit]
  · isplitl [Hg]; · iexact Hg
    iexact Hkit
  iapply (wp_exchanges K w c (fun j => (outM.access (rowsRect j)).read (Elt F) o)) $$ [Hraw HO Ho Ha Hcb]
  · isplitr; · iexact HR
    isplitl [Hraw HO Ho]
    · unfold St
      rw [glue2_reads]
      isplitl [Hraw]; · iexact Hraw
      isplitl [HO]; · iexists _; iexact HO
      iexact Ho
    isplitl [Ha]; · iexact Ha
    iexact Hcb
  iintro ⟨Hz, Hm, Hb, HO, Ho⟩
  iapply Hk
  isplitl [Hz]; · iexact Hz
  isplitl [Hm]; · iexact Hm
  isplitl [Hb]; · iexact Hb
  isplitl [HO]; · iexact HO
  isplitl [HX HRr HI HE]
  · isplitl [HX]; · iexact HX
    isplitl [HRr]; · iexact HRr
    isplitl [HI]; · iexact HI
    iexact HE
  iexact Ho

end Cert.MoE

end
-- ==== Proof.Launch.lean ====
/-
The launch: the kernel on the four devices at once.

What a device stages and ends with; the library's obligation for the body; the protocol's cells, tokens
and credits dealt out to the devices at launch; and the run of `main`, for any float values: it always
ends, every semaphore is back at zero, the arguments are unchanged and each device's result array holds
what its body left in the staged result.
-/
module

public import proofs.«01_k».proof.Proof.Body
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices compute -/

/-- The state at launch. -/
def s₀ : MemSt nD τ sig (Elt F) := ⟨m, fun _ => 0, ρ⟩

/-- The inputs as staged on device `c`. -/
def xIn (c : Dev nD) : (cc0_stg0_0 : Ref sig .tc).ty.Contents (Elt F) := (win0_0.blk (0 : Fin 1)).view.read (Elt F) (m ((c : Thread nD τ).loc main_arg0))
def rIn (c : Dev nD) : (cc0_stg1_0 : Ref sig .tc).ty.Contents (Elt F) := (win0_1.blk (0 : Fin 1)).view.read (Elt F) (m ((c : Thread nD τ).loc main_arg1))
def iIn (c : Dev nD) : (cc0_stg2_0 : Ref sig .tc).ty.Contents (Elt F) := (win0_2.blk (0 : Fin 1)).view.read (Elt F) (m ((c : Thread nD τ).loc main_arg2))
def eIn (c : Dev nD) : (cc0_stg3_0 : Ref sig .tc).ty.Contents (Elt F) := (win0_3.blk (0 : Fin 1)).view.read (Elt F) (m ((c : Thread nD τ).loc main_arg3))

/-- Device `c`'s part of the result, chunk by chunk, before any exchange. -/
def parts (c : Dev nD) : Fin 8 → FVec F S32x256 .f32 := partAt c (xIn m c) (rIn m c) (iIn m c) (eIn m c)

/-- The result as device `c` leaves it staged: the sums after both exchanges. -/
def outAt (c : Dev nD) : (cc0_stg4_0 : Ref sig .tc).ty.Contents (Elt F) := glue2 (tot (parts m) c)

/-! ## Before and after the body -/

/-- The cells' invariants at the names `K` and that each cell has reached its round. -/
def cells (K : Dev nD × CK → ℕ) : sProp 𝕄 :=
  iprop((bigSep Finset.univ fun ck : Dev nD × CK => cellInv ER (Rd (sent (parts m))) (K ck) (cell ck.1 ck.2))
    ∗ bigSep Finset.univ fun ck : Dev nD × CK => reached ER (cell ck.1 ck.2) 0)

instance cells_persistent (K : Dev nD × CK → ℕ) : BI.Persistent (cells m K) := by unfold cells; infer_instance

/-- What device `c` starts from. -/
def start (c : Dev nD) : sProp 𝕄 := iprop((∃ K, cells m K ∗ held (F := F) c) ∗ credits (F := F) c ∗ levAts L lv)

/-- Before the body: that and the scratch buffers; after it: the scratch buffers, and every counter at zero. -/
def Φ₀ (c : Dev nD) : sProp 𝕄 := iprop(start m c ∗ (∃ f, commWhole (F := F) c f) ∗ (∃ f, sbufWhole (F := F) c f))
def Φ₁ (c : Dev nD) : sProp 𝕄 := iprop(closed (F := F) c ∗ (∃ f, commWhole (F := F) c f) ∗ (∃ f, sbufWhole (F := F) c f))

/-- The proof data of the launch on device `c`: the arrays at launch, the inputs left in place and the result after the body,
    what the device owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => rIn m c
    | ⟨2, _⟩ => iIn m c
    | ⟨3, _⟩ => eIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer held whole. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ
    ∗ stg c cc0_stg0_0 (xIn m c) ∗ stg c cc0_stg1_0 (rIn m c) ∗ stg c cc0_stg2_0 (iIn m c) ∗ stg c cc0_stg3_0 (eIn m c)
    ∗ stg c cc0_stg4_0 (outAt m c))

/-- The body, between the two. -/
theorem sound_body (c : Dev nD) :
    bodyPre m ρ c ⊢ wpc c (body (F := F)) (fun _ => bodyPost m ρ c) := by
  unfold bodyPre Φ₀ start cells
  iintro ⟨⟨⟨⟨%K, ⟨#HI, #HR⟩, Hh⟩, Hc, #HL⟩, ⟨%f, Hf⟩, ⟨%g, Hg⟩⟩, Ho, ⟨%d0, %g0, %h0, H0⟩, ⟨%d1, %g1, %h1, H1⟩, ⟨%d2, %g2, %h2, H2⟩, ⟨%d3, %g3, %h3, H3⟩, ⟨%d4, %g4, -, H4⟩⟩
  have e0 : g0 = xIn m c := by rw [h0]; unfold Dat.before; rw [if_pos (fetch0_0 t0_0)]; rfl
  have e1 : g1 = rIn m c := by rw [h1]; unfold Dat.before; rw [if_pos (fetch0_1 t0_0)]; rfl
  have e2 : g2 = iIn m c := by rw [h2]; unfold Dat.before; rw [if_pos (fetch0_2 t0_0)]; rfl
  have e3 : g3 = eIn m c := by rw [h3]; unfold Dat.before; rw [if_pos (fetch0_3 t0_0)]; rfl
  subst e0; subst e1; subst e2; subst e3
  unfold Dat.owesAt Pipeline.owesWithin
  icases Ho with ⟨%W, %hW, HO⟩
  iapply (wp_body K (parts m) c (xIn m c) (rIn m c) (iIn m c) (eIn m c) rfl f g g4 W) $$ [Hh Hc Hf Hg HO H0 H1 H2 H3 H4]
  · isplitl [Hh Hc]
    · isplitr
      · unfold records
        isplitr; · iexact HI
        isplitr; · iexact HR
        iexact HL
      isplitl [Hh]; · iexact Hh
      iexact Hc
    isplitl [Hf]; · iexact Hf
    isplitl [Hg]; · iexact Hg
    isplitl [HO]; · iexact HO
    isplitl [H0 H1 H2 H3]
    · unfold inputs
      isplitl [H0]; · iexact H0
      isplitl [H1]; · iexact H1
      isplitl [H2]; · iexact H2
      iexact H3
    unfold outPts
    iexact H4
  unfold inputs outPts
  iintro ⟨Hz, Hf, Hg, ⟨%W', HO⟩, ⟨H0, H1, H2, H3⟩, H4⟩
  unfold bodyPost Φ₁ Dat.owesAt Pipeline.owesWithin
  isplitl [Hz Hf Hg]
  · isplitl [Hz]; · iexact Hz
    isplitl [Hf]; · iexact Hf
    iexact Hg
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 8000 in
/-- The library's obligation for the body on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  simp only [owns_staged]
  show bodyPre m ρ c ⊢ wpc c
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) (fun _ => bodyPost m ρ c)
  rw [body_eq]
  exact sound_body m ρ c

/-! ## The protocol's ghost state -/

/-- Over the protocol's cells of a device: the barrier, and for each slot its two. -/
theorem bigSep_CK (Φ : CK → sProp 𝕄) :
    bigSep Finset.univ Φ = iprop(Φ none ∗ bigSep Finset.univ fun q : Slot => iprop(Φ (some (false, q)) ∗ Φ (some (true, q)))) := by
  rw [pick_erase (Finset.mem_univ (none : CK)),
    show (Finset.univ.erase (none : CK)) = Finset.univ.map Function.Embedding.some from by ext x; cases x <;> simp,
    bigSep_map, bigSep_univ_prod, bigSep_univ_eq_bigSepL [false, true] (by decide) (by decide), bigSep_sep']
  rfl

theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨fun ck : Dev nD × CK => cell ck.1 ck.2, cell_injective⟩

/-- The duties of a device's own cells: two at its barrier, one at each of a slot's two cells. -/
def tokOf (x : Dev nD × (Bool ⊕ (Bool × Slot))) : GSem nD τ sig × ℕ × Bool :=
  (cell x.1 (x.2.elim (fun _ => none) some), 0, x.2.elim id fun _ => false)

theorem tokOf_injective : Function.Injective tokOf := by
  rintro ⟨c, x⟩ ⟨c', x'⟩ h
  have h1 := cell_injective (a₁ := (c, x.elim (fun _ => none) some)) (a₂ := (c', x'.elim (fun _ => none) some)) (congrArg Prod.fst h)
  have h2 : x.elim id (fun _ => false) = x'.elim id fun _ => false := congrArg (fun p : GSem nD τ sig × ℕ × Bool => p.2.2) h
  obtain ⟨rfl, h3⟩ := Prod.mk.inj h1
  rcases x with b | k <;> rcases x' with b' | k'
  · cases (show b = b' from h2); rfl
  · cases h3
  · cases h3
  · cases Option.some.inj h3; rfl

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((dutyTok ER (barCell c) 0 false ∗ dutyTok ER (barCell c) 0 true)
    ∗ bigSep Finset.univ fun q : Slot => iprop(dutyTok ER (sndCell c q) 0 false ∗ dutyTok ER (rcvCell c q) 0 false))

/-- What the launch deals device `c`; -/
def G (c : Dev nD) : sProp 𝕄 :=
  iprop((bigSep Finset.univ fun k : CK => roundState ER (Rd (sent (parts m))) (cell c k) 0)
    ∗ (bigSep Finset.univ fun k : CK => iprop(atPos ER (cell c k) 0 ∅ 0 ∗ reached ER (cell c k) 0)) ∗ toks (F := F) c)
/-- what it holds once the cells are set up and the tokens are with the devices that use them. -/
def G' (c : Dev nD) : sProp 𝕄 := iprop(∃ K, cells m K ∗ held (F := F) c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks
    rw [bigSep_map, bigSep_univ_prod]
    refine bigSep_congr fun c _ => ?_
    unfold toks
    rw [bigSep_univ_sum, bigSep_univ_prod, bigSep_univ_eq_bigSepL [false, true] (by decide) (by decide),
      bigSep_univ_eq_bigSepL [false, true] (by decide) (by decide), bigSep_sep']
    rfl
  iintro HX
  imod (Rounds.fund ER (Rd (sent (parts m))) allCells allToks) $$ HX with ⟨Hst, Hr, Hat, Htok⟩
  imodintro
  ihave Hst' := (Entails.of_eq (hX fun g => roundState ER (Rd (sent (parts m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide) (by decide)]; rfl

/-- The kernel's own semaphores are the slots' cells. -/
theorem own_eq (c : Dev nD) :
    (Pipeline.ownSems0 (Ix := Unit) (Name := ℕ) (U := UU) (Lvl := ℕ) (Val := Elt F) (τ := τ) osem c : sProp 𝕄)
      = bigSep Finset.univ fun q : Slot => iprop(semVal (sndCell c q) 0 ∗ semVal (rcvCell c q) 0) := by
  unfold Pipeline.ownSems0
  rw [bigSep_univ_prod, bigSep_univ_eq_bigSepL [false, true] (by decide) (by decide), bigSep_sep']
  rfl

/-- All counters of a device's cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [own_eq, unscoped_eq, bigSep_CK]
  iintro ⟨HS, HB⟩
  isplitl [HB]; · iexact HB
  iexact HS

/-- A device's counters at zero become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (sent (parts m))) κ (cell c k)))
          ∗ (bigSep Finset.univ fun k => iprop(atPos ER (cell c k) 0 ∅ 0 ∗ reached ER (cell c k) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd (sent (parts m))) (cell c k) 0)
      ⊢ (|={Set.univ}=> bigSep Finset.univ fun k => iprop(∃ κ : ℕ, cellInv ER (Rd (sent (parts m))) κ (cell c k)) : sProp 𝕄) from by
        rw [← bigSep_sep']
        exact (bigSep_mono fun k _ => (Rounds.body_intro ER (Rd (sent (parts m))) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device uses: its two partners' barrier duties, its own sends, its partners' arrivals. -/
def payToks (c : Dev nD) : sProp 𝕄 :=
  iprop((dutyTok ER (barCell (pr false c)) 0 false ∗ dutyTok ER (barCell (pr true c)) 0 true)
    ∗ bigSep Finset.univ fun q : Slot => iprop(dutyTok ER (sndCell c q) 0 false ∗ dutyTok ER (rcvCell (mate q c) q) 0 false))

/-- The tokens dealt to the devices that use them. -/
theorem toks_dealt : (bigSep Finset.univ fun c : Dev nD => (toks c : sProp 𝕄)) ⊢ bigSep Finset.univ fun c : Dev nD => payToks c := by
  have hb (b : Bool) : (bigSep Finset.univ fun c : Dev nD => (dutyTok ER (barCell c) 0 b : sProp 𝕄)) = bigSep Finset.univ fun c : Dev nD => dutyTok ER (barCell (pr b c)) 0 b :=
    bigSep_univ_equiv (prEquiv b) (fun c : Dev nD => (dutyTok ER (barCell c) 0 b : sProp 𝕄))
  have hr : (bigSep Finset.univ fun c : Dev nD => bigSep Finset.univ fun q : Slot => (dutyTok ER (rcvCell c q) 0 false : sProp 𝕄))
      = bigSep Finset.univ fun c : Dev nD => bigSep Finset.univ fun q : Slot => dutyTok ER (rcvCell (mate q c) q) 0 false := by
    rw [Pipeline.bigSep_univ_comm, Pipeline.bigSep_univ_comm (fun (c : Dev nD) (q : Slot) => (dutyTok ER (rcvCell (mate q c) q) 0 false : sProp 𝕄))]
    exact bigSep_congr fun q _ => bigSep_univ_equiv (prEquiv (par q)) (fun c : Dev nD => (dutyTok ER (rcvCell c q) 0 false : sProp 𝕄))
  unfold toks payToks
  simp only [bigSep_sep']
  rw [hb false, hb true, hr]

/-- A device's positions and the tokens it uses. -/
theorem held_intro (c : Dev nD) :
    iprop((bigSep Finset.univ fun k : CK => atPos ER (cell c k) 0 ∅ 0) ∗ payToks c) ⊢ held (F := F) c := by
  rw [bigSep_CK]
  unfold payToks held
  iintro ⟨⟨Ha, Has⟩, Ht, Hts⟩
  isplitl [Ha]; · iexact Ha
  isplitl [Ht]; · iexact Ht
  iapply (show iprop((bigSep Finset.univ fun q : Slot => iprop(atPos ER (sndCell c q) 0 ∅ 0 ∗ atPos ER (rcvCell c q) 0 ∅ 0))
      ∗ bigSep Finset.univ fun q : Slot => iprop(dutyTok ER (sndCell c q) 0 false ∗ dutyTok ER (rcvCell (mate q c) q) 0 false))
      ⊢ bigSep Finset.univ (tickets (F := F) c) by
    rw [← bigSep_sep']
    refine bigSep_mono fun q _ => ?_
    unfold tickets
    show (_ : sProp 𝕄) ⊢ _
    iintro ⟨⟨H1, H2⟩, H3, H4⟩
    isplitl [H3]; · iexact H3
    isplitl [H4]; · iexact H4
    isplitl [H1]; · iexact H1
    iexact H2)
  isplitl [Has]; · iexact Has
  iexact Hts

theorem regroup :
    (bigSep Finset.univ fun c : Dev nD => iprop((bigSep Finset.univ fun k => iprop(∃ κ : ℕ, cellInv ER (Rd (sent (parts m))) κ (cell c k)))
          ∗ (bigSep Finset.univ fun k => iprop(atPos ER (cell c k) 0 ∅ 0 ∗ reached ER (cell c k) 0)) ∗ toks (F := F) c) : sProp 𝕄)
      ⊢ bigSep Finset.univ (G' m) := by
  rw [bigSep_sep', bigSep_sep',
    ← bigSep_univ_prod (fun ck : Dev nD × CK => iprop(∃ κ : ℕ, cellInv ER (Rd (sent (parts m))) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd (sent (parts m))) κ (cell ck.1 ck.2) : sProp 𝕄))) $$ HI
  icases HK with ⟨%K, #HI⟩
  ihave Htk := (toks_dealt (F := F)) $$ Htok
  iapply (each_with (R := cells m K) (Φ := fun c => iprop((bigSep Finset.univ fun k : CK => atPos ER (cell c k) 0 ∅ 0) ∗ payToks (F := F) c)) fun c _ => show _ ⊢ G' m c by
    unfold G'
    show (_ : sProp 𝕄) ⊢ _
    iintro ⟨#HC, H⟩
    iexists K
    isplitr; · iexact HC
    iapply (held_intro (F := F) c); iexact H)
  isplitr
  · unfold cells; isplitl; · iexact HI
    iexact HR
  · iapply (Entails.of_eq (bigSep_sep' Finset.univ (fun c : Dev nD => bigSep Finset.univ fun k : CK => (atPos ER (cell c k) 0 ∅ 0 : sProp 𝕄)) payToks).symm)
    isplitl [Hat]; · iexact Hat
    iexact Htk

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe at launch, as credits of those it is owed to. -/
theorem creds (c : Dev nD) : (Pipeline.launchCred O₀ c : sProp 𝕄) ⊢ credits (F := F) c := by
  have hb (b : Bool) : (Pipeline.launchCred (fun d => tallyAt (barCell (pr b d)) () 1) c : sProp 𝕄) ⊢ cred (tallyAt (barCell c) () 1) :=
    Pipeline.launchCred_tallyAt (.reg barS) (pr b) (pr b) (pr_pr b) (pr_pr b) () 1 c
  have hr : (Pipeline.launchCred (fun d => owe d 0) c : sProp 𝕄) ⊢ bigSep Finset.univ fun q => cred (tallyAt (rcvCell c q) () N) := by
    unfold owe
    rw [ahead_zero, Pipeline.launchCred_sum Finset.univ (fun (q : Slot) d => tallyAt (rcvCell (mate q d) q) () N) c]
    exact bigSep_mono fun q _ => Pipeline.launchCred_tallyAt (.dma (rcvS q)) (mate q) (mate q) (mate_mate q) (mate_mate q) () N c
  have e : (Pipeline.launchCred O₀ c : sProp 𝕄) = iprop((Pipeline.launchCred (fun d => owe d 0) c
      ∗ Pipeline.launchCred (fun d => tallyAt (barCell (pr true d)) () 1) c) ∗ Pipeline.launchCred (fun d => tallyAt (barCell (pr false d)) () 1) c) := by
    rw [← Pipeline.launchCred_add, ← Pipeline.launchCred_add]; rfl
  rw [e]
  unfold credits
  iintro ⟨⟨H1, H2⟩, H3⟩
  isplitl [H2 H3]
  · rw [show (tallyAt (barCell c) () 2 : CellTallies nD τ sig Unit) = tallyAt (barCell c) () 1 + tallyAt (barCell c) () 1 from (tallyAt_add _ _ 1 1).symm]
    iapply (cred_add _ _).2
    isplitl [H2]
    · iapply (hb true); iexact H2
    · iapply (hb false); iexact H3
  · iapply hr; iexact H1

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commWhole sbufWhole
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁ closed commWhole sbufWhole
  iintro ⟨⟨Hb, Hs⟩, Hr⟩
  isplitl [Hb]; · iexact Hb
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What an array of the launch holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every weakly fair execution of `main` on the four devices ends, with each
    device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds at the end what it held. -/
theorem finalA_in (c : Dev nD) (w : Fin 5) (hw : (cfg0.win w).isOut = false) :
    finalA m ρ c w = m ((cfg0.win w).arr.view.loc (c : Thread nD τ)) :=
  (dats (F := F) m ρ 0 c).arrAt_in w hw _

end Cert.MoE

end
-- ==== Proof.Columns.lean ====
/-
Readings at an index.

A column laid along every row, a column cut out of an array, a sum along a row with one entry kept: what
each of the layout operations of the kernel and of the reference holds at a row and a column.
-/
module

public import Idealize.ShloMosaic.Lib.ValueLayout
public import Idealize.ShloMosaic.Lib.ValueLayoutCasts
public import Idealize.ShloMosaic.Lib.ValueIdx
public import Idealize.ShloMosaic.Lib.IdealHost
public import Idealize.ShloMosaic.Lib.KernelVsHost
public import Idealize.ShloMosaic.PureOps.Ideal.Laws

@[expose] public section

noncomputable section

namespace Cert.MoE

open Idealize.ShloMosaic Idealize.ShloMosaic.ValueIdx

section Layout

variable {α : Type} {a b : ℕ}

/-- A column laid along `b` columns holds, everywhere in row `i`, the column's entry there. -/
theorem spread_apply (hb : a ≠ 1) (v : (⟨2, ![a, 1]⟩ : Shape).Idx → α) (h : (⟨2, ![a, 1]⟩ : Shape).Broadcasts ⟨2, ![a, b]⟩) (i : Fin a) (k : Fin b) :
    broadcastTo ⟨2, ![a, b]⟩ v h (ix2 i k) = v (ix2 i 0) := by
  refine broadcastTo_apply v h _ _ fun x => ?_
  match x with
  | ⟨0, _⟩ => exact (if_neg hb).symm
  | ⟨1, _⟩ => exact (if_pos rfl).symm

/-- The host's way to lay a column. -/
theorem hostSpread_apply (hb : a ≠ 1) (v : (⟨2, ![a, 1]⟩ : Shape).Idx → α) (h : (⟨2, ![a, 1]⟩ : Shape).BroadcastsInDim ⟨2, ![a, b]⟩ ![0, 1])
    (i : Fin a) (k : Fin b) : broadcastInDim ⟨2, ![a, b]⟩ ![0, 1] h v (ix2 i k) = v (ix2 i 0) := by
  refine broadcastInDim_apply _ h v _ _ fun x => ?_
  match x with
  | ⟨0, _⟩ => exact (if_neg hb).symm
  | ⟨1, _⟩ => exact (if_pos rfl).symm

/-- The host's way to make a vector a column. -/
theorem hostColumn_apply (ha : a ≠ 1) (v : (⟨1, ![a]⟩ : Shape).Idx → α) (h : (⟨1, ![a]⟩ : Shape).BroadcastsInDim ⟨2, ![a, 1]⟩ ![0])
    (i : Fin a) (k : Fin 1) : broadcastInDim ⟨2, ![a, 1]⟩ ![0] h v (ix2 i k) = v (ix1 i) := by
  refine broadcastInDim_apply _ h v _ _ fun x => ?_
  match x with
  | ⟨0, _⟩ => exact (if_neg ha).symm

/-- Casting a vector to a column and laying it is what the host does in two broadcasts. -/
theorem spread_eq_hostSpread (ha : a ≠ 1) (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (h3 : (⟨1, ![a]⟩ : Shape).BroadcastsInDim ⟨2, ![a, 1]⟩ ![0])
    (h4 : (⟨2, ![a, 1]⟩ : Shape).BroadcastsInDim ⟨2, ![a, b]⟩ ![0, 1]) :
    broadcastTo ⟨2, ![a, b]⟩ (shapeCast ⟨2, ![a, 1]⟩ v h1) h2 = broadcastInDim ⟨2, ![a, b]⟩ ![0, 1] h4 (broadcastInDim ⟨2, ![a, 1]⟩ ![0] h3 v) := by
  funext j
  rw [eq_ix2 j]
  exact ((spread_apply ha _ h2 _ _).trans (shapeCast_a_a1_apply v h1 _ 0)).trans
    ((hostSpread_apply ha _ h4 _ _).trans (hostColumn_apply ha v h3 _ 0)).symm

/-- A column cast to a vector. -/
theorem uncolumn_apply (v : (⟨2, ![a, 1]⟩ : Shape).Idx → α) (h : (⟨2, ![a, 1]⟩ : Shape).ShapeCasts ⟨1, ![a]⟩) (i : Fin a) :
    shapeCast ⟨1, ![a]⟩ v h (ix1 i) = v (ix2 i 0) :=
  shapeCast_apply v h _ _ (by
    rw [Shape.rowMajor_val_two, Shape.rowMajor_val_one]
    show i.val * 1 + 0 = i.val
    omega)

/-- A column given a further axis of extent one. -/
theorem column_unit_apply (v : (⟨2, ![a, 1]⟩ : Shape).Idx → α) (h : (⟨2, ![a, 1]⟩ : Shape).ShapeCasts ⟨3, ![a, 1, 1]⟩) (i : Fin a) :
    shapeCast ⟨3, ![a, 1, 1]⟩ v h (ix3 i 0 0) = v (ix2 i 0) :=
  shapeCast_apply v h _ _ (by
    rw [Shape.rowMajor_val_two, Shape.rowMajor_val_three]
    show i.val * 1 + 0 = (i.val * 1 + 0) * 1 + 0
    omega)

end Layout

/-! ## Words below eight -/

/-- Experts are told apart by their words. -/
theorem word_inj : ∀ e f : Fin 8, BitVec.ofNat 32 e.val = BitVec.ofNat 32 f.val ↔ e = f := by decide

/-- Comparing an expert's word with an expert's. -/
theorem cmp_words (e f : Fin 8) : IntOp.cmpi .eq (BitVec.ofNat 32 e.val) (BitVec.ofNat 32 f.val) = if e = f then 1#1 else 0#1 := by
  revert e f; decide

/-! ## A sum along a row -/

/-- The sum along each row of an array of which the mask keeps one entry is that entry. -/
theorem pick_apply (p : FVec Ideal ⟨2, ![256, 8]⟩ .f32) (hi : (⟨2, ![256, 8]⟩ : Shape).Iotas .tc 32 [1]) (v : IVec ⟨2, ![256, 8]⟩ 32)
    (h : (⟨2, ![256, 8]⟩ : Shape).Reduces [1] ⟨1, ![256]⟩) (hφ : FKind.Formats .f32) (hacc : (0x00000000#32 : BitVec 32) = FKind.add.neutral .f32 hφ)
    (i : Fin 256) (e : Fin 8) (hv : ∀ k : Fin 8, v (ix2 i k) = BitVec.ofNat 32 e.val) :
    multiReduction .add [1] ⟨1, ![256]⟩
      (select (cmpi .eq (iota .tc ⟨2, ![256, 8]⟩ 32 [1] hi) v) p (broadcast ⟨2, ![256, 8]⟩ (Scalar.ofBits (F := Ideal) .f32 0x00000000#32)))
      0x00000000#32 h hφ hacc (ix1 i) = p (ix2 i e) := by
  rw [Ideal.multiReduction_add_single]
  have hl : ∀ k : Fin 8, h.lift (ix1 i) k = ix2 i k := fun k => by
    funext a; match a with | ⟨0, _⟩ => rfl | ⟨1, _⟩ => rfl
  have hs : ∀ k : Fin 8, (select (cmpi .eq (iota .tc ⟨2, ![256, 8]⟩ 32 [1] hi) v) p
      (broadcast ⟨2, ![256, 8]⟩ (Scalar.ofBits (F := Ideal) .f32 0x00000000#32))) (h.lift (ix1 i) k) = if k = e then p (ix2 i k) else 0 := fun k => by
    rw [hl k, select_apply]
    show Scalar.select (IntOp.cmpi .eq (iota .tc ⟨2, ![256, 8]⟩ 32 [1] hi (ix2 i k)) (v (ix2 i k))) _ (Ideal.ofBits .f32 0x00000000#32) = _
    rw [iota_single_apply, hv k, Ideal.ofBits_zero_f32]
    show Scalar.select (IntOp.cmpi .eq (BitVec.ofNat 32 k.val) (BitVec.ofNat 32 e.val)) _ _ = _
    rw [cmp_words]
    by_cases hk : k = e
    · rw [if_pos hk, if_pos hk]; rfl
    · rw [if_neg hk, if_neg hk]; rfl
  refine (Finset.sum_congr rfl fun k _ => hs k).trans ?_
  exact (Finset.sum_ite_eq' Finset.univ e fun k => p (ix2 i k)).trans (if_pos (Finset.mem_univ e))

end Cert.MoE

end
-- ==== Proof.Part.lean ====
/-
What one device computes for one chunk.

A row of the routing names two experts `a` and `b`. A device holds experts `2 d` and `2 d + 1`; its part of
a row is each of these experts' outputs, times the expert's share of the two chosen probabilities if it is
one of the two, and times zero if it is not.
-/
module

public import proofs.«01_k».proof.Proof.Columns
public import proofs.«01_k».proof.Proof.Program
public import Idealize.ShloMosaic.Lib.MatmulPlain

@[expose] public section

noncomputable section

namespace Cert.MoE

open Cert.KernelIdeal Cert.KernelIdeal.Gen
open Idealize.ShloMosaic Idealize.ShloMosaic.ValueIdx

/-- Expert `l` of device `d`, of the eight. -/
def own (d : Dev nD) (l : Fin 2) : Fin 8 := ⟨2 * d.val + l.val, by have := d.isLt; have : d.val < 4 := d.isLt; omega⟩

/-- Row `32 j + s` of the batch. -/
def rowOf (j : Fin 8) (s : Fin 32) : Fin 256 := ⟨32 * j.val + s.val, by omega⟩

/-- Expert `e`'s share in row `i`, when `a` and `b` are the two chosen. -/
def share (p : FVec Ideal S256x8 .f32) (i : Fin 256) (a b e : Fin 8) : EReal := Ideal.div (p (ix2 i e)) (p (ix2 i a) + p (ix2 i b))

/-- The weight of expert `e` in row `i`: its share if it is one of the two, else zero. -/
def weight (p : FVec Ideal S256x8 .f32) (i : Fin 256) (a b e : Fin 8) : EReal := if a = e ∨ b = e then share p i a b e else 0

/-- The word the kernel computes for an expert of its own. -/
theorem own_word0 (d : Dev nD) : Scalar.addi (Scalar.muli (Scalar.remsi (Scalar.divsi (Dev.word d) 1#32) 4#32) 2#32) 0#32 = BitVec.ofNat 32 (own d 0).val := by
  revert d; decide
theorem own_word1 (d : Dev nD) : Scalar.addi (Scalar.muli (Scalar.remsi (Scalar.divsi (Dev.word d) 1#32) 4#32) 2#32) 1#32 = BitVec.ofNat 32 (own d 1).val := by
  revert d; decide

/-- Whether an expert is one of two, as a bit. -/
theorem either_word (a b e : Fin 8) : IntOp.ori (IntOp.cmpi .eq (BitVec.ofNat 32 a.val) (BitVec.ofNat 32 e.val)) (IntOp.cmpi .eq (BitVec.ofNat 32 b.val) (BitVec.ofNat 32 e.val)) = if a = e ∨ b = e then 1#1 else 0#1 := by
  rw [cmp_words, cmp_words]
  by_cases ha : a = e <;> by_cases hb : b = e <;> simp [ha, hb] <;> rfl

section Row

variable {i : Fin 256} {a b : Fin 8}

/-- The two chosen probabilities of a row, added. -/
theorem chosen_apply (x : Vec Ideal S256x128 .f32) (r : Vec Ideal S128x8 .f32) (i0 i1 : Vec Ideal S256x1 .i32)
    (ha : i0 (ix2 i 0) = BitVec.ofNat 32 a.val) (hb : i1 (ix2 i 0) = BitVec.ofNat 32 b.val) :
    k0_pay6 (k0_pay2 x r) (k0_pay4 i1) (iota .tc S256x8 32 [1] iota_S256x8_d1_w32) (k0_pay5 x r i0) (ix2 i 0)
      = k0_pay2 x r (ix2 i a) + k0_pay2 x r (ix2 i b) := by
  have e0 := pick_apply (k0_pay2 x r) iota_S256x8_d1_w32 (broadcastTo S256x8 (k0_pay3 i0) broadcasts_S256x1_S256x8) reduces_S256x8_S256 (.inl rfl) rfl
    i a (fun k => (spread_apply (by decide) _ _ _ _).trans (((congrFun (shapeCast_self _ _) _)).trans ha))
  have e1 := pick_apply (k0_pay2 x r) iota_S256x8_d1_w32 (broadcastTo S256x8 (k0_pay4 i1) broadcasts_S256x1_S256x8) reduces_S256x8_S256 (.inl rfl) rfl
    i b (fun k => (spread_apply (by decide) _ _ _ _).trans (((congrFun (shapeCast_self _ _) _)).trans hb))
  exact congrArg₂ (· + ·) ((shapeCast_a_a1_apply _ _ _ _).trans e0) ((shapeCast_a_a1_apply _ _ _ _).trans e1)

/-- The weight the kernel computes from an expert's word. -/
theorem weight_of_word (p : FVec Ideal S256x8 .f32) (i0 i1 : Vec Ideal S256x1 .i32) (den : FVec Ideal S256x1 .f32) (e : Fin 8) (w : BitVec 32)
    (hw : w = BitVec.ofNat 32 e.val) (ha : i0 (ix2 i 0) = BitVec.ofNat 32 a.val) (hb : i1 (ix2 i 0) = BitVec.ofNat 32 b.val)
    (hd : den (ix2 i 0) = p (ix2 i a) + p (ix2 i b)) :
    select (ori (cmpi .eq (k0_pay3 (F := Ideal) i0) (broadcast S256x1 w)) (cmpi .eq (k0_pay4 (F := Ideal) i1) (broadcast S256x1 w)))
      (divf (shapeCast S256x1 (multiReduction .add [1] S256
        (select (cmpi .eq (iota .tc S256x8 32 [1] iota_S256x8_d1_w32) (broadcast S256x8 w)) p (broadcast S256x8 (Scalar.ofBits (F := Ideal) .f32 0x00000000#32)))
        0x00000000#32 reduces_S256x8_S256 (.inl rfl) rfl) shapeCasts_S256_S256x1) den)
      (broadcast S256x1 (Scalar.ofBits (F := Ideal) .f32 0x00000000#32)) (ix2 i 0) = weight p i a b e := by
  subst hw
  have e0 : k0_pay3 (F := Ideal) i0 (ix2 i 0) = BitVec.ofNat 32 a.val := (congrFun (shapeCast_self _ _) _).trans ha
  have e1 : k0_pay4 (F := Ideal) i1 (ix2 i 0) = BitVec.ofNat 32 b.val := (congrFun (shapeCast_self _ _) _).trans hb
  have hn := pick_apply p iota_S256x8_d1_w32 (broadcast S256x8 (BitVec.ofNat 32 e.val)) reduces_S256x8_S256 (.inl rfl) rfl i e (fun _ => rfl)
  show Scalar.select (IntOp.ori (IntOp.cmpi .eq (k0_pay3 (F := Ideal) i0 (ix2 i 0)) (BitVec.ofNat 32 e.val)) (IntOp.cmpi .eq (k0_pay4 (F := Ideal) i1 (ix2 i 0)) (BitVec.ofNat 32 e.val)))
    (Ideal.div (shapeCast S256x1 _ shapeCasts_S256_S256x1 (ix2 i 0)) (den (ix2 i 0))) (Ideal.ofBits .f32 0x00000000#32) = _
  rw [e0, e1, either_word, shapeCast_a_a1_apply, hn, hd, Ideal.ofBits_zero_f32]
  unfold weight share
  by_cases h : a = e ∨ b = e
  · rw [if_pos h, if_pos h]; rfl
  · rw [if_neg h, if_neg h]; rfl

/-- The two weights of a device's experts. -/
theorem weight0_apply (d : Dev nD) (x : Vec Ideal S256x128 .f32) (r : Vec Ideal S128x8 .f32) (i0 i1 : Vec Ideal S256x1 .i32)
    (ha : i0 (ix2 i 0) = BitVec.ofNat 32 a.val) (hb : i1 (ix2 i 0) = BitVec.ofNat 32 b.val) :
    weight0 d x r i0 i1 (ix2 i 0) = weight (k0_pay2 x r) i a b (own d 0) :=
  weight_of_word (k0_pay2 x r) i0 i1 _ _ _ (own_word0 d) ha hb (chosen_apply x r i0 i1 ha hb)
theorem weight1_apply (d : Dev nD) (x : Vec Ideal S256x128 .f32) (r : Vec Ideal S128x8 .f32) (i0 i1 : Vec Ideal S256x1 .i32)
    (ha : i0 (ix2 i 0) = BitVec.ofNat 32 a.val) (hb : i1 (ix2 i 0) = BitVec.ofNat 32 b.val) :
    weight1 d x r i0 i1 (ix2 i 0) = weight (k0_pay2 x r) i a b (own d 1) :=
  weight_of_word (k0_pay2 x r) i0 i1 _ _ _ (own_word1 d) ha hb (chosen_apply x r i0 i1 ha hb)

end Row

/-- A row of the batch through a matrix. -/
def through (x : FVec Ideal S256x128 .f32) (u : Fin 128 → Fin 256 → EReal) (i f : Fin 256) : EReal := ∑ k : Fin 128, x (ix2 i k) * u k f

/-- Row `s` of a chunk of the batch through a matrix. -/
theorem chunk_through (x : FVec Ideal S256x128 .bf16) (u : FVec Ideal S128x256 .bf16) (j : Fin 8) (s : Fin 32) (f : Fin 256) :
    matmul dot_S32x128_S128x256_S32x256_1_0_0_1_n_n none (extractStridedSlice S32x128 ![32 * j.val, 0] x (slices_x j)) u
      (constant S32x256 .f32 0x00000000#32) (ix2 s f) = through x (fun k f => u (ix2 k f)) (rowOf j s) f := by
  refine (Ideal.matmul_plain_apply none _ u _ s f).trans ?_
  rw [show (constant (F := Ideal) S32x256 .f32 0x00000000#32) (ix2 s f) = 0 from Ideal.ofBits_zero_f32, zero_add]
  exact Finset.sum_congr rfl fun k _ => congrArg (· * _) (slice2_axis0_apply _ x _ s k (rowOf j s) rfl)

/-- A chunk of the weights laid along the columns. -/
theorem chunk_weight (w : FVec Ideal S256x1 .f32) (j : Fin 8) (s : Fin 32) (f : Fin 256) :
    broadcastTo S32x256 (extractStridedSlice S32x1 ![32 * j.val, 0] w (slices_w j)) broadcasts_S32x1_S32x256 (ix2 s f) = w (ix2 (rowOf j s) 0) :=
  (spread_apply (by decide) _ _ _ _).trans (slice2_axis0_apply _ w _ s 0 (rowOf j s) rfl)

/-- **A device's part, read at row `s` and column `f` of chunk `j`.** -/
theorem partOf_apply (d : Dev nD) (x : Vec Ideal S256x128 .f32) (r : Vec Ideal S128x8 .f32) (i0 i1 : Vec Ideal S256x1 .i32)
    (u0 u1 : Vec Ideal S1x128x256 .f32) (j : Fin 8) (s : Fin 32) (f : Fin 256) {a b : Fin 8}
    (ha : i0 (ix2 (rowOf j s) 0) = BitVec.ofNat 32 a.val) (hb : i1 (ix2 (rowOf j s) 0) = BitVec.ofNat 32 b.val) :
    partOf d x r i0 i1 u0 u1 j (ix2 s f)
      = weight (k0_pay2 x r) (rowOf j s) a b (own d 0) * through x (fun k f => u0 (ix3 0 k f)) (rowOf j s) f
        + weight (k0_pay2 x r) (rowOf j s) a b (own d 1) * through x (fun k f => u1 (ix3 0 k f)) (rowOf j s) f := by
  have hx : (k0_pay9 (k0_pay1 x) : FVec Ideal S256x128 .bf16) = x := shapeCast_self x _
  have h0 : ∀ (k : Fin 128) (f : Fin 256), (k0_pay10 u0 : FVec Ideal S128x256 .bf16) (ix2 k f) = u0 (ix3 0 k f) := fun k f =>
    shapeCast_1ab_ab_apply u0 shapeCasts_S1x128x256_S128x256 k f
  have h1 : ∀ (k : Fin 128) (f : Fin 256), (k0_pay11 u1 : FVec Ideal S128x256 .bf16) (ix2 k f) = u1 (ix3 0 k f) := fun k f =>
    shapeCast_1ab_ab_apply u1 shapeCasts_S1x128x256_S128x256 k f
  have t0 := chunk_through (k0_pay9 (k0_pay1 x)) (k0_pay10 u0) j s f
  have t1 := chunk_through (k0_pay9 (k0_pay1 x)) (k0_pay11 u1) j s f
  rw [hx] at t0 t1
  simp only [h0] at t0
  simp only [h1] at t1
  unfold partOf chunkPart
  rw [hx]
  exact congrArg₂ (· + ·)
    (congrArg₂ (· * ·) ((chunk_weight _ j s f).trans (weight0_apply d x r i0 i1 ha hb)) t0)
    (congrArg₂ (· * ·) ((chunk_weight _ j s f).trans (weight1_apply d x r i0 i1 ha hb)) t1)

end Cert.MoE

end
-- ==== Proof.Sum.lean ====
/-
What the result holds.

The two exchanges add up the four devices' parts, whichever way a chunk went: over the extended reals,
where rounding for the way changes nothing and the order of a sum does not matter, every device's result is
the sum over the devices of their parts. The parts are of what the arguments hold.
-/
module

public import proofs.«01_k».proof.Proof.Part
public import proofs.«01_k».proof.Proof.Launch

@[expose] public section

noncomputable section

namespace Cert.MoE

open Cert.KernelIdeal Cert.KernelIdeal.Gen
open Idealize.ShloMosaic Idealize.ShloMosaic.ValueIdx
open Idealize.ShloMosaic.TcCoe

/-! ## The sum over the devices -/

/-- Adding a chunk as it was sent. -/
theorem plus_pack_apply (v u : FVec Ideal S32x256 .f32) (i : S32x256.Idx) : plus v (pack u) i = v i + u i := by
  have e1 : shapeCast S32x256 v shapeCasts_S32x256_S32x256 = v := shapeCast_self v _
  have e2 : shapeCast S32x256 (pack u) shapeCasts_S1x1x32x256_S32x256 = u :=
    shapeCast_shapeCast _ _ _
  show shapeCast S32x256 v shapeCasts_S32x256_S32x256 i + shapeCast S32x256 (pack u) shapeCasts_S1x1x32x256_S32x256 i = _
  rw [e1, e2]

/-- The second exchange is with the partner the first was not with. -/
theorem par_other (j : Fin 8) : par (1, j) = !par (0, j) := by revert j; decide

/-- A device, its two partners and the one across are all four. -/
theorem four_devices (g : Dev nD → EReal) (p : Bool) (c : Dev nD) :
    g c + g (pr p c) + (g (pr (!p) c) + g (pr p (pr (!p) c))) = ∑ d : Dev nD, g d := by
  have hu : (Finset.univ : Finset (Dev nD)) = {c, pr p c, pr (!p) c, pr p (pr (!p) c)} := by revert p c; decide
  have h1 : c ∉ ({pr p c, pr (!p) c, pr p (pr (!p) c)} : Finset (Dev nD)) := by revert p c; decide
  have h2 : pr p c ∉ ({pr (!p) c, pr p (pr (!p) c)} : Finset (Dev nD)) := by revert p c; decide
  have h3 : pr (!p) c ∉ ({pr p (pr (!p) c)} : Finset (Dev nD)) := by revert p c; decide
  rw [hu, Finset.sum_insert h1, Finset.sum_insert h2, Finset.sum_insert h3, Finset.sum_singleton, add_assoc]

/-- **After both exchanges a chunk is the sum of the four devices' parts of it.** -/
theorem tot_apply (w : Dev nD → Fin 8 → FVec Ideal S32x256 .f32) (c : Dev nD) (j : Fin 8) (i : S32x256.Idx) :
    tot w c j i = ∑ d : Dev nD, w d j i := by
  unfold tot acc
  rw [plus_pack_apply, plus_pack_apply, plus_pack_apply]
  unfold mate
  rw [par_other]
  exact four_devices (fun d => w d j i) (par (0, j)) c

/-! ## What is read of the arguments -/

/-- A window at the array's start takes each index to itself. -/
theorem window_start (w : Pipeline.Window sig grid0) (h : ∀ a, w.kind.off (w.index (0 : Fin 1) a) (w.size a) = 0)
    (i : (w.xblock (grid0.coords (0 : Fin 1))).Idx) (a : Fin w.shape.rank) : ((w.rect (0 : Fin 1)).emb i a).val = (i a).val :=
  (w.rect_emb_val_off (0 : Fin 1) i a).trans ((congrArg (· + (i a).val) (h a)).trans (Nat.zero_add _))

section Reads

variable (m : (ℓ : Loc nD τ sig) → Buf (Elt Ideal) ℓ) (c : Dev nD)

/-- The four arguments of device `c`. -/
abbrev argX : FVec Ideal S256x128 .f32 := m ((c : Thread nD τ).loc main_arg0)
abbrev argR : FVec Ideal S128x8 .f32 := m ((c : Thread nD τ).loc main_arg1)
abbrev argI : IVec S256x2 32 := m ((c : Thread nD τ).loc main_arg2)
abbrev argE : FVec Ideal S2x128x256 .f32 := m ((c : Thread nD τ).loc main_arg3)

theorem xIn_eq : xIn m c = argX m c :=
  funext fun i => congrArg (argX m c) (funext fun a => Fin.ext (window_start win0_0 (fun _ => Nat.zero_mul _) i a))
theorem rIn_eq : rIn m c = argR m c :=
  funext fun i => congrArg (argR m c) (funext fun a => Fin.ext (window_start win0_1 (fun _ => Nat.zero_mul _) i a))
theorem iIn_eq : iIn m c = argI m c :=
  funext fun i => congrArg (argI m c) (funext fun a => Fin.ext (window_start win0_2 (fun _ => Nat.zero_mul _) i a))
theorem eIn_eq : eIn m c = argE m c :=
  funext fun i => congrArg (argE m c) (funext fun a => Fin.ext (window_start win0_3 (fun _ => Nat.zero_mul _) i a))

theorem zero2 : (![0, 0] : Fin 2 → ℕ) = fun _ => 0 := funext fun a => match a with | ⟨0, _⟩ => rfl | ⟨1, _⟩ => rfl

/-- The loads of the batch and of the router's matrix are of all they hold. -/
theorem read_x (X : (cc0_stg0_0 : Ref sig .tc).ty.Contents (Elt Ideal)) : xM.view.readAt (Elt Ideal) xRect.toLoadRect X = X :=
  Memref.readAt_unit_zero (Elt Ideal) cc0_stg0_0 zero2 inb_S256x128_S256x128_0_0 X
theorem read_r (R : (cc0_stg1_0 : Ref sig .tc).ty.Contents (Elt Ideal)) : rM.view.readAt (Elt Ideal) rRect.toLoadRect R = R :=
  Memref.readAt_unit_zero (Elt Ideal) cc0_stg1_0 zero2 inb_S128x8_S128x8_0_0 R

/-- The two columns of the routing. -/
theorem read_i0 (I : (cc0_stg2_0 : Ref sig .tc).ty.Contents (Elt Ideal)) (i : Fin 256) :
    iM.view.readAt (Elt Ideal) iRect0.toLoadRect I (ix2 i 0) = I (ix2 i 0) := by
  refine congrArg I (funext fun a => Fin.ext ?_)
  match a with
  | ⟨0, _⟩ => show 0 + 1 * i.val = i.val; omega
  | ⟨1, _⟩ => rfl
theorem read_i1 (I : (cc0_stg2_0 : Ref sig .tc).ty.Contents (Elt Ideal)) (i : Fin 256) :
    iM.view.readAt (Elt Ideal) iRect1.toLoadRect I (ix2 i 0) = I (ix2 i 1) := by
  refine congrArg I (funext fun a => Fin.ext ?_)
  match a with
  | ⟨0, _⟩ => show 0 + 1 * i.val = i.val; omega
  | ⟨1, _⟩ => rfl

/-- The two matrices of the device's experts. -/
theorem read_e0 (E : (cc0_stg3_0 : Ref sig .tc).ty.Contents (Elt Ideal)) (k : Fin 128) (f : Fin 256) :
    eM.view.readAt (Elt Ideal) eRect0.toLoadRect E (ix3 0 k f) = E (ix3 0 k f) := by
  refine congrArg E (funext fun a => Fin.ext ?_)
  match a with
  | ⟨0, _⟩ => rfl
  | ⟨1, _⟩ => show 0 + 1 * k.val = k.val; omega
  | ⟨2, _⟩ => show 0 + 1 * f.val = f.val; omega
theorem read_e1 (E : (cc0_stg3_0 : Ref sig .tc).ty.Contents (Elt Ideal)) (k : Fin 128) (f : Fin 256) :
    eM.view.readAt (Elt Ideal) eRect1.toLoadRect E (ix3 0 k f) = E (ix3 1 k f) := by
  refine congrArg E (funext fun a => Fin.ext ?_)
  match a with
  | ⟨0, _⟩ => rfl
  | ⟨1, _⟩ => show 0 + 1 * k.val = k.val; omega
  | ⟨2, _⟩ => show 0 + 1 * f.val = f.val; omega

/-- The probabilities device `c` computes. -/
def probs : FVec Ideal S256x8 .f32 := k0_pay2 (argX m c) (argR m c)

/-- What expert `l` of device `c` contributes at row `i`, column `f`, the row's two experts being `a` and `b`. -/
def contrib (a b : Fin 8) (i f : Fin 256) (l : Fin 2) : EReal :=
  weight (probs m c) i a b (own c l) * through (argX m c) (fun k f => argE m c (ix3 l k f)) i f

/-- **A device's part of a chunk is what its two experts contribute.** -/
theorem parts_apply (j : Fin 8) (s : Fin 32) (f : Fin 256) {a b : Fin 8} (ha : argI m c (ix2 (rowOf j s) 0) = BitVec.ofNat 32 a.val)
    (hb : argI m c (ix2 (rowOf j s) 1) = BitVec.ofNat 32 b.val) :
    parts m c j (ix2 s f) = contrib m c a b (rowOf j s) f 0 + contrib m c a b (rowOf j s) f 1 := by
  unfold parts partAt
  rw [xIn_eq, rIn_eq, iIn_eq, eIn_eq, read_x, read_r]
  refine (partOf_apply c _ _ _ _ _ _ j s f ((read_i0 _ _).trans ha) ((read_i1 _ _).trans hb)).trans ?_
  have e0 := funext fun k => funext fun f => read_e0 (argE m c) k f
  have e1 := funext fun k => funext fun f => read_e1 (argE m c) k f
  exact congrArg₂ (fun u v => weight (probs m c) (rowOf j s) a b (own c 0) * through (argX m c) u (rowOf j s) f
    + weight (probs m c) (rowOf j s) a b (own c 1) * through (argX m c) v (rowOf j s) f) e0 e1

end Reads

/-! ## The result -/

section Result

variable (m : (ℓ : Loc nD τ sig) → Buf (Elt Ideal) ℓ) (ρ : Dev nD → PrngReg) (c : Dev nD)

/-- **What a device leaves in its result at row `i`, column `f`: the sum of what all experts contribute there**, when the
    devices agree on the row's two experts. -/
theorem outAt_apply (i f : Fin 256) {a b : Fin 8} (ha : ∀ d, argI m d (ix2 i 0) = BitVec.ofNat 32 a.val)
    (hb : ∀ d, argI m d (ix2 i 1) = BitVec.ofNat 32 b.val) :
    outAt m c (ix2 i f) = (∑ d : Dev nD, (contrib m d a b i f 0 + contrib m d a b i f 1) : EReal) := by
  have hj : i.val / 32 < 8 := by omega
  have hs : i.val % 32 < 32 := Nat.mod_lt _ (by decide)
  have hr : rowOf ⟨i.val / 32, hj⟩ ⟨i.val % 32, hs⟩ = i := Fin.ext (Nat.div_add_mod _ _)
  have h : outAt m c (ix2 i f) = tot (parts m) c ⟨i.val / 32, hj⟩ (ix2 ⟨i.val % 32, hs⟩ f) := by
    unfold outAt glue2
    refine congrArg₂ (tot (parts m) c) rfl ?_
    rw [eq_ix2 (inChunk (ix2 i f))]
    rfl
  refine h.trans ((tot_apply (parts m) c _ _).trans ?_)
  refine Finset.sum_congr rfl fun d _ => ?_
  have e := parts_apply m d ⟨i.val / 32, hj⟩ ⟨i.val % 32, hs⟩ f (a := a) (b := b) (by rw [hr]; exact ha d) (by rw [hr]; exact hb d)
  rw [hr] at e
  exact e

/-- The result's array ends holding that. -/
theorem finalA_out : finalA m ρ c 4 = outAt m c := by
  refine (dats m ρ 0 c).arrAt_eq_of_cover 4 (outAt m c) (fun t _ => ?_) fun i => ⟨t0_0, flush0_4 t0_0, ?_⟩
  · obtain rfl := fin_N0 t
    unfold Pipeline.Dat.flushed
    exact (funext fun i => congrArg (outAt m c) (funext fun a => Fin.ext (window_start win0_4 (fun _ => Nat.zero_mul _) i a))).symm
  · have e : (win0_4.blk (0 : Fin 1)).view.emb i = i := funext fun a => Fin.ext (window_start win0_4 (fun _ => Nat.zero_mul _) i a)
    exact e ▸ View.emb_mem_set _ i

end Result

end Cert.MoE

end
-- ==== Proof.Reference.lean ====
/-
What the reference computes.

A row of the reference's result is the outputs of the row's two experts, weighted by their shares of the two
chosen probabilities. The probabilities are the kernel's own: the two programs write the softmax with
different operations of the same meaning.
-/
module

public import proofs.«01_k».proof.Proof.Part
public import proofs.«01_k».proof.Proof.Gen.ReferenceIdeal.Run

@[expose] public section

noncomputable section

namespace Cert.MoE

open Cert.ReferenceIdeal Cert.ReferenceIdeal.Gen
open Idealize.ShloMosaic Idealize.ShloMosaic.ValueIdx

/-! ## The probabilities -/

/-- The scores of the experts, less the greatest of the row, exponentiated. -/
def refExp (x : FVec Ideal S256x128 .f32) (r : FVec Ideal S128x8 .f32) : FVec Ideal S256x8 .f32 :=
  Host.exp (subf (Host.dotGeneral dot_S256x128_S128x8_S256x8_1_0_0_1_n_n none x r)
    (broadcastInDim S256x8 ![0, 1] bcast_S256x1_S256x8_0_1 (broadcastInDim S256x1 ![0] bcast_S256_S256x1_0
      (Host.reduce FloatOps.maximumf (Host.dotGeneral dot_S256x128_S128x8_S256x8_1_0_0_1_n_n none x r) (constant S_ .f32 0xFF800000#32)
        reducesTo_S256x8_S256_d1 h_S_))))

/-- The softmax of the scores. -/
def refProbs (x : FVec Ideal S256x128 .f32) (r : FVec Ideal S128x8 .f32) : FVec Ideal S256x8 .f32 :=
  Host.divf (refExp x r) (broadcastInDim S256x8 ![0, 1] bcast_S256x1_S256x8_0_1 (broadcastInDim S256x1 ![0] bcast_S256_S256x1_0
    (Host.reduceAdd (refExp x r) (constant S_ .f32 0x00000000#32) reducesTo_S256x8_S256_d1 h_S_)))

/-- **The reference's probabilities are the kernel's.** -/
theorem refProbs_eq (x : FVec Ideal S256x128 .f32) (r : FVec Ideal S128x8 .f32) : refProbs x r = Cert.KernelIdeal.Gen.k0_pay2 x r := by
  have hx : Cert.KernelIdeal.Gen.k0_pay1 (F := Ideal) x = x := shapeCast_self x _
  have hr : shapeCast Cert.KernelIdeal.S128x8 r Cert.KernelIdeal.Gen.shapeCasts_S128x8_S128x8 = r := shapeCast_self r _
  have hd : matmul Cert.KernelIdeal.dot_S256x128_S128x8_S256x8_1_0_0_1_n_n none (Cert.KernelIdeal.Gen.k0_pay1 (F := Ideal) x)
      (shapeCast Cert.KernelIdeal.S128x8 r Cert.KernelIdeal.Gen.shapeCasts_S128x8_S128x8) (constant Cert.KernelIdeal.S256x8 .f32 0x00000000#32)
      = Host.dotGeneral dot_S256x128_S128x8_S256x8_1_0_0_1_n_n none x r := by
    rw [hx, hr]
    exact matmul_zero_eq_dotGeneral _ none x r
  -- a row's greatest score, laid along the row
  have hm : ∀ v : FVec Ideal S256x8 .f32,
      broadcastTo Cert.KernelIdeal.S256x8 (shapeCast Cert.KernelIdeal.S256x1 (multiReduction .maximumf [1] Cert.KernelIdeal.S256 v 0xFF800000#32
        Cert.KernelIdeal.Gen.reduces_S256x8_S256 (.inl rfl) rfl) Cert.KernelIdeal.Gen.shapeCasts_S256_S256x1) Cert.KernelIdeal.Gen.broadcasts_S256x1_S256x8
      = broadcastInDim S256x8 ![0, 1] bcast_S256x1_S256x8_0_1 (broadcastInDim S256x1 ![0] bcast_S256_S256x1_0
          (Host.reduce FloatOps.maximumf v (constant S_ .f32 0xFF800000#32) reducesTo_S256x8_S256_d1 h_S_)) := fun v => by
    rw [hostReduce_maximumf_eq_multiReduction v 0xFF800000#32 reducesTo_S256x8_S256_d1 h_S_ Cert.KernelIdeal.Gen.reduces_S256x8_S256 (.inl rfl) rfl]
    exact spread_eq_hostSpread (by decide) _ _ _ _ _
  -- a row's sum, laid along the row
  have hs : ∀ v : FVec Ideal S256x8 .f32,
      broadcastTo Cert.KernelIdeal.S256x8 (shapeCast Cert.KernelIdeal.S256x1 (multiReduction .add [1] Cert.KernelIdeal.S256 v 0x00000000#32
        Cert.KernelIdeal.Gen.reduces_S256x8_S256 (.inl rfl) rfl) Cert.KernelIdeal.Gen.shapeCasts_S256_S256x1) Cert.KernelIdeal.Gen.broadcasts_S256x1_S256x8
      = broadcastInDim S256x8 ![0, 1] bcast_S256x1_S256x8_0_1 (broadcastInDim S256x1 ![0] bcast_S256_S256x1_0
          (Host.reduceAdd v (constant S_ .f32 0x00000000#32) reducesTo_S256x8_S256_d1 h_S_)) := fun v => by
    rw [multiReduction_add_eq_hostReduceAdd v 0x00000000#32 Cert.KernelIdeal.Gen.reduces_S256x8_S256 (.inl rfl) rfl (constant S_ .f32 0x00000000#32)
      reducesTo_S256x8_S256_d1 h_S_ Ideal.ofBits_zero_f32]
    exact spread_eq_hostSpread (by decide) _ _ _ _ _
  symm
  unfold Cert.KernelIdeal.Gen.k0_pay2
  dsimp only
  rw [hd, hm, hs]
  rfl

/-! ## The two gathers -/

/-- A number below eight, as a word, is not negative. -/
theorem word_clip : ∀ e : Fin 8, Scalar.select (IntOp.cmpi .slt (BitVec.ofNat 32 e.val) 0#32) (IntOp.addi (BitVec.ofNat 32 e.val) 8#32) (BitVec.ofNat 32 e.val)
    = BitVec.ofNat 32 e.val := by decide

/-- Read signed it is itself. -/
theorem word_toInt : ∀ e : Fin 8, (BitVec.ofNat 32 e.val).toInt.toNat = e.val := by decide

/-- A row's probability of the expert the column names. -/
theorem refPick_apply (p : FVec Ideal S256x8 .f32) (col : IVec S256x1 32) (i : Fin 256) (e : Fin 8) (hv : col (ix2 i 0) = BitVec.ofNat 32 e.val) :
    Host.gather gather_S256x8_S256x1x1_S256x1_n_1_0_0_1_2_11 p (shapeCast S256x1x1
      (select (cmpi .slt col (broadcastInDim S256x1 ![] bcast_S_S256x1 (constantI S_ 32 0#32)))
        (addi col (broadcastInDim S256x1 ![] bcast_S_S256x1 (constantI S_ 32 8#32))) col) shapeCasts_S256x1_S256x1x1) (ix2 i 0) = p (ix2 i e) := by
  generalize hidx : shapeCast S256x1x1 _ shapeCasts_S256x1_S256x1x1 = idx
  have hi : idx (ix3 i 0 0) = BitVec.ofNat 32 e.val := by
    rw [← hidx]
    refine (column_unit_apply _ _ i).trans ?_
    show Scalar.select (IntOp.cmpi .slt (col (ix2 i 0)) 0#32) (IntOp.addi (col (ix2 i 0)) 8#32) (col (ix2 i 0)) = _
    rw [hv, word_clip]
  let d := gather_S256x8_S256x1x1_S256x1_n_1_0_0_1_2_11
  unfold Host.gather
  refine congrArg p (funext fun a => Fin.ext ?_)
  match a with
  | ⟨0, _⟩ =>
    show d.start (ix2 i 0) idx 0 + d.batchCoord (ix2 i 0) 0 + d.offCoord (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start (ix2 i 0) idx 1 + d.batchCoord (ix2 i 0) 1 + d.offCoord (ix2 i 0) 1 = e.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 i 0) ⟨List.idxOf (1 : Fin 2) d.startIndexMap, List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hi, word_toInt]
    show min e.val (8 - 1) = e.val
    omega

/-- The matrix of the expert the column names. -/
theorem refExpert_apply (E : FVec Ideal S8x128x256 .f32) (col : IVec S256x1 32) (i : Fin 256) (k : Fin 128) (f : Fin 256) (e : Fin 8)
    (hv : col (ix2 i 0) = BitVec.ofNat 32 e.val) :
    Host.gather gather_S8x128x256_S256x1_S256x128x256_12_0_n_n_0_1_1128256 E (broadcastInDim S256x1 ![0] bcast_S256_S256x1_0
      (shapeCast S256 col shapeCasts_S256x1_S256)) (ix3 i k f) = E (ix3 e k f) := by
  generalize hidx : broadcastInDim S256x1 ![0] bcast_S256_S256x1_0 (shapeCast S256 col shapeCasts_S256x1_S256) = idx
  have hi : idx (ix2 i 0) = BitVec.ofNat 32 e.val := by
    rw [← hidx]
    exact ((hostColumn_apply (by decide) _ _ i 0).trans (uncolumn_apply col _ i)).trans hv
  let d := gather_S8x128x256_S256x1_S256x128x256_12_0_n_n_0_1_1128256
  unfold Host.gather
  refine congrArg E (funext fun a => Fin.ext ?_)
  have hb : ∀ a : Fin 3, d.batchCoord (ix3 i k f) a = 0 := fun a => GatherDims.batchCoord_eq_zero _ _ _ List.not_mem_nil
  match a with
  | ⟨0, _⟩ =>
    show d.start (ix3 i k f) idx 0 + d.batchCoord (ix3 i k f) 0 + d.offCoord (ix3 i k f) 0 = e.val
    rw [hb, GatherDims.offCoord_eq_zero _ _ _ (fun h => ((GatherDims.mem_sKept _ _).mp h).1 (List.mem_singleton.mpr rfl))]
    simp only [Nat.add_zero]
    unfold GatherDims.start
    rw [dif_pos (show (0 : Fin 3) ∈ d.startIndexMap from List.mem_singleton.mpr rfl)]
    have hsi : d.siIdx (ix3 i k f) ⟨List.idxOf (0 : Fin 3) d.startIndexMap, List.idxOf_lt_length_iff.2 (List.mem_singleton.mpr rfl)⟩ = ix2 i 0 := by
      funext b; refine Fin.ext ?_
      match b with
      | ⟨0, _⟩ => rfl
      | ⟨1, _⟩ => rfl
    rw [hsi, hi, word_toInt]
    show min e.val (8 - 1) = e.val
    omega
  | ⟨1, _⟩ =>
    show d.start (ix3 i k f) idx 1 + d.batchCoord (ix3 i k f) 1 + d.offCoord (ix3 i k f) 1 = k.val
    rw [hb]
    have hst : d.start (ix3 i k f) idx 1 = 0 := by
      unfold GatherDims.start
      rw [dif_neg (show (1 : Fin 3) ∉ d.startIndexMap from by decide)]
    rw [hst, Nat.zero_add]
    rfl
  | ⟨2, _⟩ =>
    show d.start (ix3 i k f) idx 2 + d.batchCoord (ix3 i k f) 2 + d.offCoord (ix3 i k f) 2 = f.val
    rw [hb]
    have hst : d.start (ix3 i k f) idx 2 = 0 := by
      unfold GatherDims.start
      rw [dif_neg (show (2 : Fin 3) ∉ d.startIndexMap from by decide)]
    rw [hst, Nat.zero_add]
    rfl

/-- Each row through its own matrix. -/
theorem refThrough_apply (x : FVec Ideal S256x128 .f32) (w : FVec Ideal S256x128x256 .f32) (i f : Fin 256) :
    Host.dotGeneral dot_S256x128_S256x128x256_S256x256_1_1_n_2_0_0 none x w (ix2 i f) = through x (fun k f => w (ix3 i k f)) i f := by
  let d := dot_S256x128_S256x128x256_S256x256_1_1_n_2_0_0
  have hr : d.contr.rank = 1 := rfl
  have hc : d.contr.size ⟨0, by rw [hr]; exact Nat.one_pos⟩ = 128 := rfl
  refine (Ideal.dotGeneral_apply d none _ x w (ix2 i f)).trans ?_
  rw [← Equiv.sum_comp (contrEquiv1 d 128 hr hc).symm]
  refine Finset.sum_congr rfl fun k _ => ?_
  have hk := contrEquiv1_symm_val d 128 hr hc k
  have el : d.lhsIdx (ix2 i f) ((contrEquiv1 d 128 hr hc).symm k) = ix2 i k := by
    funext a; apply Fin.ext
    match a with
    | ⟨0, _⟩ => rfl
    | ⟨1, _⟩ => exact hk
  have er : d.rhsIdx (ix2 i f) ((contrEquiv1 d 128 hr hc).symm k) = ix3 i k f := by
    funext a; apply Fin.ext
    match a with
    | ⟨0, _⟩ => rfl
    | ⟨1, _⟩ => exact hk
    | ⟨2, _⟩ => rfl
  rw [el, er]

/-! ## The result -/

section Result

variable (x : FVec Ideal S256x128 .f32) (r : FVec Ideal S128x8 .f32) (t : IVec S256x2 32) (E : FVec Ideal S8x128x256 .f32)

/-- A column of the routing. -/
def refCol0 : IVec S256x1 32 := extractStridedSlice S256x1 ![0, 0] t slices_S256x2_S256x1_0_0
def refCol1 : IVec S256x1 32 := extractStridedSlice S256x1 ![0, 1] t slices_S256x2_S256x1_0_1

/-- The chosen probability a column names, row by row. -/
def refPick (col : IVec S256x1 32) : FVec Ideal S256x1 .f32 :=
  Host.gather gather_S256x8_S256x1x1_S256x1_n_1_0_0_1_2_11 (refProbs x r) (shapeCast S256x1x1
    (select (cmpi .slt col (broadcastInDim S256x1 ![] bcast_S_S256x1 (constantI S_ 32 0#32)))
      (addi col (broadcastInDim S256x1 ![] bcast_S_S256x1 (constantI S_ 32 8#32))) col) shapeCasts_S256x1_S256x1x1)

/-- The outputs of the experts a column names. -/
def refOut (col : IVec S256x1 32) : FVec Ideal S256x256 .f32 :=
  Host.dotGeneral dot_S256x128_S256x128x256_S256x256_1_1_n_2_0_0 none x
    (Host.gather gather_S8x128x256_S256x1_S256x128x256_12_0_n_n_0_1_1128256 E (broadcastInDim S256x1 ![0] bcast_S256_S256x1_0
      (shapeCast S256 col shapeCasts_S256x1_S256)))

/-- The outputs a column names, weighted by its probabilities' shares. -/
def refHalf (col : IVec S256x1 32) : FVec Ideal S256x256 .f32 :=
  mulf (broadcastInDim S256x256 ![0, 1] bcast_S256x1_S256x256_0_1
    (Host.divf (refPick x r col) (addf (refPick x r (refCol0 t)) (refPick x r (refCol1 t))))) (refOut x E col)

variable {t} {i : Fin 256} {a b : Fin 8}

theorem refHalf_apply (ha : t (ix2 i 0) = BitVec.ofNat 32 a.val) (hb : t (ix2 i 1) = BitVec.ofNat 32 b.val) (col : IVec S256x1 32) (e : Fin 8)
    (he : col (ix2 i 0) = BitVec.ofNat 32 e.val) (f : Fin 256) :
    refHalf x r t E col (ix2 i f) = share (Cert.KernelIdeal.Gen.k0_pay2 x r) i a b e * through x (fun k f => E (ix3 e k f)) i f := by
  have h0 : refCol0 t (ix2 i 0) = BitVec.ofNat 32 a.val := (slice2_axis1_apply 0 t _ i 0 0 rfl).trans ha
  have h1 : refCol1 t (ix2 i 0) = BitVec.ofNat 32 b.val := (slice2_axis1_apply 1 t _ i 0 1 rfl).trans hb
  have p0 : refPick x r (refCol0 t) (ix2 i 0) = refProbs x r (ix2 i a) := refPick_apply _ _ i a h0
  have p1 : refPick x r (refCol1 t) (ix2 i 0) = refProbs x r (ix2 i b) := refPick_apply _ _ i b h1
  have pe : refPick x r col (ix2 i 0) = refProbs x r (ix2 i e) := refPick_apply _ _ i e he
  rw [refProbs_eq] at p0 p1 pe
  have hg : Host.divf (refPick x r col) (addf (refPick x r (refCol0 t)) (refPick x r (refCol1 t))) (ix2 i 0)
      = share (Cert.KernelIdeal.Gen.k0_pay2 x r) i a b e := by
    show Ideal.div (refPick x r col (ix2 i 0)) (refPick x r (refCol0 t) (ix2 i 0) + refPick x r (refCol1 t) (ix2 i 0)) = _
    rw [p0, p1, pe]
    rfl
  have ho : refOut x E col (ix2 i f) = through x (fun k f => E (ix3 e k f)) i f :=
    (refThrough_apply x _ i f).trans (Finset.sum_congr rfl fun k _ => congrArg (x (ix2 i k) * ·) (refExpert_apply E col i k f e he))
  exact congrArg₂ (· * ·) ((hostSpread_apply (by decide) _ _ i f).trans hg) ho

end Result

/-- **The reference at row `i`, column `f`: its two experts' outputs, each times its share.** -/
theorem ref_apply (m : (ℓ : Loc nD τ sig) → Buf (Elt Ideal) ℓ) (c : Dev nD) (i f : Fin 256) {a b : Fin 8}
    (ha : (m ((c.tc : Thread nD τ).loc main_arg2) : IVec S256x2 32) (ix2 i 0) = BitVec.ofNat 32 a.val)
    (hb : (m ((c.tc : Thread nD τ).loc main_arg2) : IVec S256x2 32) (ix2 i 1) = BitVec.ofNat 32 b.val) :
    (Value.res_main_v29 m c : FVec Ideal S256x256 .f32) (ix2 i f)
      = (share (Cert.KernelIdeal.Gen.k0_pay2 (m ((c.tc : Thread nD τ).loc main_arg0)) (m ((c.tc : Thread nD τ).loc main_arg1))) i a b a
          * through (m ((c.tc : Thread nD τ).loc main_arg0)) (fun k f => (m ((c.tc : Thread nD τ).loc main_arg3) : FVec Ideal S8x128x256 .f32) (ix3 a k f)) i f
        + share (Cert.KernelIdeal.Gen.k0_pay2 (m ((c.tc : Thread nD τ).loc main_arg0)) (m ((c.tc : Thread nD τ).loc main_arg1))) i a b b
          * through (m ((c.tc : Thread nD τ).loc main_arg0)) (fun k f => (m ((c.tc : Thread nD τ).loc main_arg3) : FVec Ideal S8x128x256 .f32) (ix3 b k f)) i f : EReal) := by
  have h : (Value.res_main_v29 m c : FVec Ideal S256x256 .f32)
      = addf (refHalf (m ((c.tc : Thread nD τ).loc main_arg0)) (m ((c.tc : Thread nD τ).loc main_arg1)) (m ((c.tc : Thread nD τ).loc main_arg2))
          (m ((c.tc : Thread nD τ).loc main_arg3)) (refCol0 (m ((c.tc : Thread nD τ).loc main_arg2))))
        (refHalf (m ((c.tc : Thread nD τ).loc main_arg0)) (m ((c.tc : Thread nD τ).loc main_arg1)) (m ((c.tc : Thread nD τ).loc main_arg2))
          (m ((c.tc : Thread nD τ).loc main_arg3)) (refCol1 (m ((c.tc : Thread nD τ).loc main_arg2)))) := rfl
  rw [h]
  exact congrArg₂ (· + ·)
    (refHalf_apply _ _ _ ha hb _ a ((slice2_axis1_apply 0 _ _ i 0 0 rfl).trans ha) f)
    (refHalf_apply _ _ _ ha hb _ b ((slice2_axis1_apply 1 _ _ i 0 1 rfl).trans hb) f)

end Cert.MoE

end
-- ==== Proof.Equation.lean ====
/-
The equation.

Where every row names two different experts, the sum over the four devices of what each one's two experts
contribute has two terms that are not zero, and these are the reference's.
-/
module

public import proofs.«01_k».proof.Proof.Sum
public import proofs.«01_k».proof.Proof.Reference
public import proofs.«01_k».proof.Pre_routed_KernelIdeal
public import Idealize.ShloMosaic.Lib.ReduceAll
public import Idealize.ShloMosaic.Lib.StableHlo.Predicate
public import Idealize.ShloMosaic.Lib.Layout

@[expose] public section

noncomputable section

namespace Cert.MoE

open Idealize.ShloMosaic Idealize.ShloMosaic.ValueIdx
open Idealize.ShloMosaic.TcCoe

/-! ## The routing -/

/-- A word from 0 to 7 is an expert's. -/
theorem word_of_range (w : BitVec 32) (h0 : IntOp.cmpi .sge w 0#32 = 1#1) (h8 : IntOp.cmpi .slt w 8#32 = 1#1) :
    ∃ e : Fin 8, w = BitVec.ofNat 32 e.val := by
  simp only [IntOp.cmpi, Idealize.ShloMosaic.StableHlo.Predicate.ofBool_eq_one_iff, BitVec.sle, BitVec.slt, decide_eq_true_eq] at h0 h8
  have e0 : (0#32 : BitVec 32).toInt = 0 := by decide
  have e8 : (8#32 : BitVec 32).toInt = 8 := by decide
  rw [e0] at h0
  rw [e8] at h8
  rw [BitVec.toInt_eq_toNat_cond] at h0 h8
  have hw := w.isLt
  have hn : w.toNat < 8 := by split at h0 <;> split at h8 <;> omega
  exact ⟨⟨w.toNat, hn⟩, (BitVec.ofNat_toNat 32 w).symm ▸ by simp⟩

/-- **What the precondition says: every row names two different experts.** -/
theorem routed_rows [Cert.Pre_routed_KernelIdeal.Facts] (x : FVec Ideal ⟨2, ![256, 128]⟩ .f32) (r : FVec Ideal ⟨2, ![128, 8]⟩ .f32) (t : IVec ⟨2, ![256, 2]⟩ 32)
    (E : FVec Ideal ⟨3, ![2, 128, 256]⟩ .f32) (h : Cert.Pre_routed_KernelIdeal.fn (F := Ideal) x r t E = fun _ => 1#1) (i : Fin 256) :
    ∃ a b : Fin 8, a ≠ b ∧ t (ix2 i 0) = BitVec.ofNat 32 a.val ∧ t (ix2 i 1) = BitVec.ofNat 32 b.val := by
  have hj := congrFun h ix0
  unfold Cert.Pre_routed_KernelIdeal.fn at hj
  dsimp only at hj
  obtain ⟨h1, h2⟩ := IntOp.andi_eq_one.1 hj
  haveI : Subsingleton (Cert.Pre_routed_KernelIdeal.S_).Idx := ⟨fun a b => funext fun k => k.elim0⟩
  have hr : ∀ k : Fin 2, ∃ e : Fin 8, t (ix2 i k) = BitVec.ofNat 32 e.val := fun k => by
    obtain ⟨u, v⟩ := IntOp.andi_eq_one.1 (Host.reduce_andi_all _ _ _ _ _ h1 (ix2 i k))
    exact word_of_range _ u v
  obtain ⟨a, ha⟩ := hr 0
  obtain ⟨b, hb⟩ := hr 1
  have hne := Host.reduce_andi_all _ _ _ _ _ h2 (ix1 i)
  refine ⟨a, b, fun e => ?_, ha, hb⟩
  subst e
  have c0 := (uncolumn_apply (extractStridedSlice ⟨2, ![256, 1]⟩ ![0, 0] t Cert.Pre_routed_KernelIdeal.Facts.slices_S256x2_S256x1_0_0)
    Cert.Pre_routed_KernelIdeal.Facts.shapeCasts_S256x1_S256 i).trans ((slice2_axis1_apply 0 t _ i 0 0 rfl).trans ha)
  have c1 := (uncolumn_apply (extractStridedSlice ⟨2, ![256, 1]⟩ ![0, 1] t Cert.Pre_routed_KernelIdeal.Facts.slices_S256x2_S256x1_0_1)
    Cert.Pre_routed_KernelIdeal.Facts.shapeCasts_S256x1_S256 i).trans ((slice2_axis1_apply 1 t _ i 0 1 rfl).trans hb)
  have hc : IntOp.cmpi .ne (BitVec.ofNat 32 a.val) (BitVec.ofNat 32 a.val) = 1#1 := by
    refine Eq.trans ?_ hne
    exact (congrArg₂ (IntOp.cmpi .ne) c0 c1).symm
  revert hc; clear * -; revert a; decide

/-! ## The sum over all experts -/

/-- The four devices' experts are the eight. -/
theorem all_experts (g : Fin 8 → EReal) : (∑ d : Dev Cert.KernelIdeal.nD, (g (own d 0) + g (own d 1))) = ∑ e : Fin 8, g e := by
  refine (Fin.sum_univ_four (f := fun d : Fin 4 => g (own d 0) + g (own d 1))).trans ?_
  rw [Fin.sum_univ_eight]
  show g 0 + g 1 + (g 2 + g 3) + (g 4 + g 5) + (g 6 + g 7) = _
  abel

/-- Of a sum over the experts that keeps two of them, two terms are left. -/
theorem two_experts (g : Fin 8 → EReal) {a b : Fin 8} (h : a ≠ b) : (∑ e : Fin 8, if a = e ∨ b = e then g e else 0) = g a + g b := by
  have hs : ∀ e : Fin 8, (if a = e ∨ b = e then g e else 0) = (if a = e then g e else 0) + if b = e then g e else 0 := fun e => by
    by_cases ha : a = e
    · have hb : b ≠ e := fun hb => h (ha.trans hb.symm)
      rw [if_pos (.inl ha), if_pos ha, if_neg hb, add_zero]
    · by_cases hb : b = e
      · rw [if_pos (.inr hb), if_neg ha, if_pos hb, zero_add]
      · rw [if_neg (fun h => h.elim ha hb), if_neg ha, if_neg hb, add_zero]
  rw [Finset.sum_congr rfl fun e _ => hs e, Finset.sum_add_distrib, Finset.sum_ite_eq, Finset.sum_ite_eq, if_pos (Finset.mem_univ _), if_pos (Finset.mem_univ _)]

section Equation

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments. -/
abbrev refX : FVec Ideal ⟨2, ![256, 128]⟩ .f32 := m' (((0 : Dev Cert.ReferenceIdeal.nD).tc : Thread Cert.ReferenceIdeal.nD Cert.ReferenceIdeal.τ).loc Cert.ReferenceIdeal.main_arg0)
abbrev refR : FVec Ideal ⟨2, ![128, 8]⟩ .f32 := m' (((0 : Dev Cert.ReferenceIdeal.nD).tc : Thread Cert.ReferenceIdeal.nD Cert.ReferenceIdeal.τ).loc Cert.ReferenceIdeal.main_arg1)
abbrev refI : IVec ⟨2, ![256, 2]⟩ 32 := m' (((0 : Dev Cert.ReferenceIdeal.nD).tc : Thread Cert.ReferenceIdeal.nD Cert.ReferenceIdeal.τ).loc Cert.ReferenceIdeal.main_arg2)
abbrev refE : FVec Ideal ⟨3, ![8, 128, 256]⟩ .f32 := m' (((0 : Dev Cert.ReferenceIdeal.nD).tc : Thread Cert.ReferenceIdeal.nD Cert.ReferenceIdeal.τ).loc Cert.ReferenceIdeal.main_arg3)

theorem expert_tiles : Layout.Tiles ⟨3, ![2, 128, 256]⟩ ⟨3, ![8, 128, 256]⟩ 0 4 := by decide

/-- Matrix `l` of block `c` of the experts' matrices is expert `own c l`'s. -/
theorem block_expert (c : Dev Cert.KernelIdeal.nD) (E : FVec Ideal ⟨3, ![8, 128, 256]⟩ .f32) (l : Fin 2) (k : Fin 128) (f : Fin 256) :
    Layout.block ⟨3, ![2, 128, 256]⟩ ⟨3, ![8, 128, 256]⟩ 0 4 c E expert_tiles (ix3 l k f) = E (ix3 (own c l) k f) := by
  rw [Layout.block_apply]
  refine congrArg E (funext fun a => Fin.ext ?_)
  rw [Layout.Tiles.idx_val]
  match a with
  | ⟨0, _⟩ => exact congrArg (· + l.val) (Nat.mul_comm c.val 2)
  | ⟨1, _⟩ => rfl
  | ⟨2, _⟩ => rfl

/-- **On every device the kernel's result is the reference's.** -/
theorem result_eq (c : Dev Cert.KernelIdeal.nD)
    (hx : ∀ d, argX m d = refX m') (hr : ∀ d, argR m d = refR m') (hi : ∀ d, argI m d = refI m')
    (he : ∀ d, argE m d = Layout.block ⟨3, ![2, 128, 256]⟩ ⟨3, ![8, 128, 256]⟩ 0 4 d (refE m') expert_tiles)
    (hp : ∀ i : Fin 256, ∃ a b : Fin 8, a ≠ b ∧ refI m' (ix2 i 0) = BitVec.ofNat 32 a.val ∧ refI m' (ix2 i 1) = BitVec.ofNat 32 b.val) :
    outAt m c = Cert.ReferenceIdeal.Value.res_main_v29 m' 0 := by
  funext j
  obtain ⟨i, f, rfl⟩ : ∃ (i f : Fin 256), j = ix2 i f := ⟨j 0, j 1, eq_ix2 j⟩
  obtain ⟨a, b, hab, ha, hb⟩ := hp i
  refine (outAt_apply m c i f (a := a) (b := b) (fun d => (congrFun (hi d) _).trans ha) (fun d => (congrFun (hi d) _).trans hb)).trans ?_
  refine Eq.trans ?_ (ref_apply m' 0 i f ha hb).symm
  have hc : ∀ d l, contrib m d a b i f l = weight (Cert.KernelIdeal.Gen.k0_pay2 (refX m') (refR m')) i a b (own d l)
      * through (refX m') (fun k f => refE m' (ix3 (own d l) k f)) i f := fun d l => by
    unfold contrib probs
    rw [hx, hr, he]
    simp only [block_expert]
  simp only [hc]
  refine (all_experts fun e => weight (Cert.KernelIdeal.Gen.k0_pay2 (refX m') (refR m')) i a b e * through (refX m') (fun k f => refE m' (ix3 e k f)) i f).trans ?_
  refine Eq.trans (Finset.sum_congr rfl fun e _ => ?_) (two_experts (fun e => share (Cert.KernelIdeal.Gen.k0_pay2 (refX m') (refR m')) i a b e
    * through (refX m') (fun k f => refE m' (ix3 e k f)) i f) hab)
  unfold weight
  split
  · rfl
  · exact zero_mul _

end Equation

end Cert.MoE

end
-- ==== Proof.lean ====
/-
  The claims assembled: each frame is the run of Launch.lean (or the generated run of the reference) read at the
  arguments and the counters; the equation of the results is Equation.lean's, read through the same two runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.Gen.Pre_routed_KernelIdeal
public import proofs.«01_k».proof.Proof.Gen.Pre_routed_ReferenceIdeal
public import Idealize.ShloMosaic.Adequacy
public import Idealize.ShloMosaic.Init

@[expose] public section

noncomputable section

namespace Cert.Proof

open Idealize.ShloMosaic Idealize.SL.Sem Cert.MoE

/-- What a finished run of the kernel leaves in the five arrays, read at the four arguments: each is what it was. -/
theorem args_unchanged {F : FTy → Type} [FloatOps F] (m : (ℓ : Loc Cert.KernelIdeal.nD Cert.KernelIdeal.τ Cert.KernelIdeal.sig) → Buf (Elt F) ℓ)
    (ρ : Dev Cert.KernelIdeal.nD → PrngReg) {r} (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c (0 : Fin 5)).trans (finalA_in m ρ c 0 rfl), (h c (1 : Fin 5)).trans (finalA_in m ρ c 1 rfl),
    (h c (2 : Fin 5)).trans (finalA_in m ρ c 2 rfl), (h c (3 : Fin 5)).trans (finalA_in m ρ c 3 rfl)⟩

/-- At any float values the kernel runs to the end and leaves its arguments and every counter as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨args_unchanged m ρ h.1, h.2⟩) (run_main m ρ)

/-- The kernel with exact numbers: the run above at that instance. -/
theorem frame_ideal : Cert.quiescent_KernelIdeal := fun m ρ _ => frame_any (F := Ideal) m ρ

/-- The same under the precondition that the routing indices are experts' and distinct. -/
theorem frame_ideal_routed : Cert.quiescent_KernelIdeal_pre_routed_KernelIdeal := fun m ρ _ => frame_ideal m ρ trivial

/-- The two printings of the kernel have one body table: the body's entry is the same on every grid point. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- So the two programs define the same. -/
theorem defs_eq {F : FTy → Type} [FloatOps F] : Cert.Kernel.defs (F := F) = Cert.KernelIdeal.defs (F := F) := by
  unfold Cert.Kernel.defs Cert.KernelIdeal.defs
  exact congrArg (Pipeline.defs Cert.KernelIdeal.pcfgs) bodies_eq

/-- The kernel on float words: its text is the one the run above is of, so the same run read at that instance. -/
theorem frame_kernel : Cert.quiescent_Kernel := by
  intro m ρ _
  rw [defs_eq]
  exact frame_any (F := Bits) m ρ

/-- The reference runs to the end; it has no counter that could be left raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_routed : Cert.quiescent_ReferenceIdeal_pre_routed_ReferenceIdeal := fun m ρ _ => frame_reference m ρ trivial

/-- Under the precondition, every device's result is the reference's. -/
theorem algebraic : @Cert.algebraic_KernelIdeal_ReferenceIdeal_pre_routed_KernelIdeal Cert.KernelIdeal.Gen.facts Cert.ReferenceIdeal.Gen.facts
    Cert.Pre_routed_KernelIdeal.Gen.facts := by
  intro m ρ m' ρ' hp ha
  have hi : ∀ d, argI m d = refI m' := fun d => (ha d).2.2.1
  have hrows : ∀ i : Fin 256, ∃ a b : Fin 8, a ≠ b ∧ refI m' (ValueIdx.ix2 i 0) = BitVec.ofNat 32 a.val ∧ refI m' (ValueIdx.ix2 i 1) = BitVec.ofNat 32 b.val := by
    rw [← hi 0]
    exact routed_rows _ _ _ _ (hp 0)
  refine ⟨Cert.ReferenceIdeal.Value.res_main_v29 m' 0,
    (θ_run Cert.KernelIdeal.defs _ _).mono (fun r h c => ⟨?_, args_unchanged m ρ h.1 c⟩) (run_main m ρ),
    (θ_run Cert.ReferenceIdeal.defs _ _).mono (fun r h => h 0) (Cert.ReferenceIdeal.Value.run (F := Ideal) m' ρ')⟩
  exact (h.1 c (4 : Fin 5)).trans ((finalA_out m ρ c).trans
    (result_eq m m' c (fun d => (ha d).1) (fun d => (ha d).2.1) hi (fun d => (ha d).2.2.2) hrows))

/-- The certificate: the witnesses of the programs' stated facts, then the claims in their order. -/
theorem claim : Cert.Claim := ⟨Cert.Kernel.Gen.facts, Cert.KernelIdeal.Gen.facts, Cert.ReferenceIdeal.Gen.facts, Cert.Pre_routed_KernelIdeal.Gen.facts, Cert.Pre_routed_ReferenceIdeal.Gen.facts,
  frame_kernel, frame_ideal, frame_ideal_routed, frame_reference, frame_reference_routed, trivial, algebraic⟩

end Cert.Proof

end
